-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16777216 : Shape := ⟨1, ![16777216]⟩
abbrev S_ : Shape := ⟨0, ![]⟩
abbrev S131072x128 : Shape := ⟨2, ![131072, 128]⟩
abbrev S1 : Shape := ⟨1, ![1]⟩
abbrev S118784x128 : Shape := ⟨2, ![118784, 128]⟩
abbrev S29 : Shape := ⟨1, ![29]⟩
abbrev S4096x128 : Shape := ⟨2, ![4096, 128]⟩
abbrev S64x128 : Shape := ⟨2, ![64, 128]⟩
abbrev S1x64x128 : Shape := ⟨3, ![1, 64, 128]⟩
abbrev S1x1x1 : Shape := ⟨3, ![1, 1, 1]⟩

abbrev nBuf : Space → Nat
  | .hbm => 75
  | .vmem => 1
  | .smem => 1
  | _ => 0

abbrev bufTy : (tb : Table) → Fin (tcTables nBuf tb) → BufTy
  | .hbm, ⟨0, _⟩ => ⟨S16777216, .f32⟩
  | .hbm, ⟨1, _⟩ => ⟨S_, .i32⟩
  | .hbm, ⟨2, _⟩ => ⟨S131072x128, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S1, .f32⟩
  | .hbm, ⟨73, _⟩ => ⟨S131072x128, .f32⟩
  | .hbm, ⟨74, _⟩ => ⟨S16777216, .f32⟩
  | .local _ .vmem, ⟨0, _⟩ => ⟨S118784x128, .f32⟩
  | .local _ .smem, ⟨0, _⟩ => ⟨S1, .f32⟩
  | _, _ => ⟨S16777216, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_c_3 : Ref sig .tc := ⟨.hbm, 10, rfl⟩
abbrev main_v4 : Ref sig .tc := ⟨.hbm, 11, rfl⟩
abbrev main_c_4 : Ref sig .tc := ⟨.hbm, 12, rfl⟩
abbrev main_v5 : Ref sig .tc := ⟨.hbm, 13, rfl⟩
abbrev main_c_5 : Ref sig .tc := ⟨.hbm, 14, rfl⟩
abbrev main_v6 : Ref sig .tc := ⟨.hbm, 15, rfl⟩
abbrev main_call1_c : Ref sig .tc := ⟨.hbm, 16, rfl⟩
abbrev main_call1_v0 : Ref sig .tc := ⟨.hbm, 17, rfl⟩
abbrev main_v7 : Ref sig .tc := ⟨.hbm, 18, rfl⟩
abbrev main_c_6 : Ref sig .tc := ⟨.hbm, 19, rfl⟩
abbrev main_c_7 : Ref sig .tc := ⟨.hbm, 20, rfl⟩
abbrev main_v8 : Ref sig .tc := ⟨.hbm, 21, rfl⟩
abbrev main_c_8 : Ref sig .tc := ⟨.hbm, 22, rfl⟩
abbrev main_v9 : Ref sig .tc := ⟨.hbm, 23, rfl⟩
abbrev main_c_9 : Ref sig .tc := ⟨.hbm, 24, rfl⟩
abbrev main_v10 : Ref sig .tc := ⟨.hbm, 25, rfl⟩
abbrev main_v11 : Ref sig .tc := ⟨.hbm, 26, rfl⟩
abbrev main_call2_c : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_c_10 : Ref sig .tc := ⟨.hbm, 31, rfl⟩
abbrev main_v14 : Ref sig .tc := ⟨.hbm, 32, rfl⟩
abbrev main_c_11 : Ref sig .tc := ⟨.hbm, 33, rfl⟩
abbrev main_v15 : Ref sig .tc := ⟨.hbm, 34, rfl⟩
abbrev main_v16 : Ref sig .tc := ⟨.hbm, 35, rfl⟩
abbrev main_call3_c : Ref sig .tc := ⟨.hbm, 36, rfl⟩
abbrev main_call3_v0 : Ref sig .tc := ⟨.hbm, 37, rfl⟩
abbrev main_v17 : Ref sig .tc := ⟨.hbm, 38, rfl⟩
abbrev main_v18 : Ref sig .tc := ⟨.hbm, 39, rfl⟩
abbrev main_c_12 : Ref sig .tc := ⟨.hbm, 40, rfl⟩
abbrev main_v19 : Ref sig .tc := ⟨.hbm, 41, rfl⟩
abbrev main_c_13 : Ref sig .tc := ⟨.hbm, 42, rfl⟩
abbrev main_v20 : Ref sig .tc := ⟨.hbm, 43, rfl⟩
abbrev main_v21 : Ref sig .tc := ⟨.hbm, 44, rfl⟩
abbrev main_call4_c : Ref sig .tc := ⟨.hbm, 45, rfl⟩
abbrev main_call4_v0 : Ref sig .tc := ⟨.hbm, 46, rfl⟩
abbrev main_v22 : Ref sig .tc := ⟨.hbm, 47, rfl⟩
abbrev main_v23 : Ref sig .tc := ⟨.hbm, 48, rfl⟩
abbrev main_c_14 : Ref sig .tc := ⟨.hbm, 49, rfl⟩
abbrev main_v24 : Ref sig .tc := ⟨.hbm, 50, rfl⟩
abbrev main_c_15 : Ref sig .tc := ⟨.hbm, 51, rfl⟩
abbrev main_v25 : Ref sig .tc := ⟨.hbm, 52, rfl⟩
abbrev main_v26 : Ref sig .tc := ⟨.hbm, 53, rfl⟩
abbrev main_call5_c : Ref sig .tc := ⟨.hbm, 54, rfl⟩
abbrev main_call5_v0 : Ref sig .tc := ⟨.hbm, 55, rfl⟩
abbrev main_v27 : Ref sig .tc := ⟨.hbm, 56, rfl⟩
abbrev main_v28 : Ref sig .tc := ⟨.hbm, 57, rfl⟩
abbrev main_c_16 : Ref sig .tc := ⟨.hbm, 58, rfl⟩
abbrev main_v29 : Ref sig .tc := ⟨.hbm, 59, rfl⟩
abbrev main_c_17 : Ref sig .tc := ⟨.hbm, 60, rfl⟩
abbrev main_v30 : Ref sig .tc := ⟨.hbm, 61, rfl⟩
abbrev main_v31 : Ref sig .tc := ⟨.hbm, 62, rfl⟩
abbrev main_call6_c : Ref sig .tc := ⟨.hbm, 63, rfl⟩
abbrev main_call6_v0 : Ref sig .tc := ⟨.hbm, 64, rfl⟩
abbrev main_v32 : Ref sig .tc := ⟨.hbm, 65, rfl⟩
abbrev main_v33 : Ref sig .tc := ⟨.hbm, 66, rfl⟩
abbrev main_c_18 : Ref sig .tc := ⟨.hbm, 67, rfl⟩
abbrev main_v34 : Ref sig .tc := ⟨.hbm, 68, rfl⟩
abbrev main_c_19 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev cc0_scratch0 : Ref sig .tc := ⟨.vmem, 0, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_90 : BitVec 32 := 0#32
  let c32_i32 : BitVec 32 := 32#32
  let v119 : BitVec 32 := Scalar.addi c0_i32_90 c32_i32
  let c1_i32_91 : BitVec 32 := 1#32
  ⟨c0_i32_90, v119, c1_i32_91⟩
def k0_off1 (k0_t1 : Fin k0_t1_loop.trips) : Fin 1 → Nat :=
  let c0_i32_90 : BitVec 32 := 0#32
  let c1_i32_91 : BitVec 32 := 1#32
  let arg6 : BitVec 32 := Scf.iv c0_i32_90 c1_i32_91 k0_t1
  let c25_i32_255 : BitVec 32 := 25#32
  let v265 : BitVec 1 := Scalar.cmpi .slt arg6 c25_i32_255
  let c25_i32_262 : BitVec 32 := 25#32
  let c4_i32_256 : BitVec 32 := 4#32
  let c0_i32_257 : BitVec 32 := 0#32
  let v266 : BitVec 1 := Scalar.cmpi .eq c4_i32_256 c0_i32_257
  let c1_i32_258 : BitVec 32 := 1#32
  let v267 : BitVec 32 := Scalar.select v266 c1_i32_258 c4_i32_256
  let v268 : BitVec 32 := Scalar.remsi arg6 v267
  let c0_i32_260 : BitVec 32 := 0#32
  let v270 : BitVec 1 := Scalar.cmpi .slt v268 c0_i32_260
  let c0_i32_261 : BitVec 32 := 0#32
  let v271 : BitVec 1 := Scalar.cmpi .slt v267 c0_i32_261
  let v272 : BitVec 1 := Scalar.xori v270 v271
  let c0_i32_259 : BitVec 32 := 0#32
  let v269 : BitVec 1 := Scalar.cmpi .ne v268 c0_i32_259
  let v273 : BitVec 1 := Scalar.andi v272 v269
  let v274 : BitVec 32 := Scalar.addi v268 v267
  let v275 : BitVec 32 := Scalar.select v273 v274 v268
  let v276 : BitVec 32 := Scalar.addi c25_i32_262 v275
  let v277 : BitVec 32 := Scalar.select v265 arg6 v276
  ![v277.toNat]
def k0_off2 (k0_t1 : Fin k0_t1_loop.trips) : Fin 2 → Nat :=
  let c0_i32_90 : BitVec 32 := 0#32
  let c1_i32_91 : BitVec 32 := 1#32
  let arg6 : BitVec 32 := Scf.iv c0_i32_90 c1_i32_91 k0_t1
  let c25_i32_246 : BitVec 32 := 25#32
  let v251 : BitVec 1 := Scalar.cmpi .slt arg6 c25_i32_246
  let c25_i32_253 : BitVec 32 := 25#32
  let c4_i32_247 : BitVec 32 := 4#32
  let c0_i32_248 : BitVec 32 := 0#32
  let v252 : BitVec 1 := Scalar.cmpi .eq c4_i32_247 c0_i32_248
  let c1_i32_249 : BitVec 32 := 1#32
  let v253 : BitVec 32 := Scalar.select v252 c1_i32_249 c4_i32_247
  let v254 : BitVec 32 := Scalar.remsi arg6 v253
  let c0_i32_251 : BitVec 32 := 0#32
  let v256 : BitVec 1 := Scalar.cmpi .slt v254 c0_i32_251
  let c0_i32_252 : BitVec 32 := 0#32
  let v257 : BitVec 1 := Scalar.cmpi .slt v253 c0_i32_252
  let v258 : BitVec 1 := Scalar.xori v256 v257
  let c0_i32_250 : BitVec 32 := 0#32
  let v255 : BitVec 1 := Scalar.cmpi .ne v254 c0_i32_250
  let v259 : BitVec 1 := Scalar.andi v258 v255
  let v260 : BitVec 32 := Scalar.addi v254 v253
  let v261 : BitVec 32 := Scalar.select v259 v260 v254
  let v262 : BitVec 32 := Scalar.addi c25_i32_253 v261
  let v263 : BitVec 32 := Scalar.select v251 arg6 v262
  let c4096_i32_254 : BitVec 32 := 4096#32
  let v264 : BitVec 32 := Scalar.muli v263 c4096_i32_254
  let c0_i32_263 : BitVec 32 := 0#32
  ![v264.toNat, 0]
def k0_off3 (k0_t1 : Fin k0_t1_loop.trips) : Fin 2 → Nat :=
  let c0_i32_90 : BitVec 32 := 0#32
  let c1_i32_91 : BitVec 32 := 1#32
  let arg6 : BitVec 32 := Scf.iv c0_i32_90 c1_i32_91 k0_t1
  let c4096_i32_245 : BitVec 32 := 4096#32
  let v250 : BitVec 32 := Scalar.muli arg6 c4096_i32_245
  let c0_i32_264 : BitVec 32 := 0#32
  ![v250.toNat, 0]
@[reducible] def k0_t2_loop : Scf.Loop 32 :=
  let c0_i32_274 : BitVec 32 := 0#32
  let c64_i32 : BitVec 32 := 64#32
  let v296 : BitVec 32 := Scalar.addi c0_i32_274 c64_i32
  let c1_i32_275 : BitVec 32 := 1#32
  ⟨c0_i32_274, v296, c1_i32_275⟩
def k0_off4 (k0_t1 : Fin k0_t1_loop.trips) (k0_t2 : Fin k0_t2_loop.trips) : Fin 2 → Nat :=
  let c0_i32_90 : BitVec 32 := 0#32
  let c1_i32_91 : BitVec 32 := 1#32
  let arg6 : BitVec 32 := Scf.iv c0_i32_90 c1_i32_91 k0_t1
  let c25_i32_265 : BitVec 32 := 25#32
  let v282 : BitVec 1 := Scalar.cmpi .slt arg6 c25_i32_265
  let c25_i32_272 : BitVec 32 := 25#32
  let c4_i32_266 : BitVec 32 := 4#32
  let c0_i32_267 : BitVec 32 := 0#32
  let v283 : BitVec 1 := Scalar.cmpi .eq c4_i32_266 c0_i32_267
  let c1_i32_268 : BitVec 32 := 1#32
  let v284 : BitVec 32 := Scalar.select v283 c1_i32_268 c4_i32_266
  let v285 : BitVec 32 := Scalar.remsi arg6 v284
  let c0_i32_270 : BitVec 32 := 0#32
  let v287 : BitVec 1 := Scalar.cmpi .slt v285 c0_i32_270
  let c0_i32_271 : BitVec 32 := 0#32
  let v288 : BitVec 1 := Scalar.cmpi .slt v284 c0_i32_271
  let v289 : BitVec 1 := Scalar.xori v287 v288
  let c0_i32_269 : BitVec 32 := 0#32
  let v286 : BitVec 1 := Scalar.cmpi .ne v285 c0_i32_269
  let v290 : BitVec 1 := Scalar.andi v289 v286
  let v291 : BitVec 32 := Scalar.addi v285 v284
  let v292 : BitVec 32 := Scalar.select v290 v291 v285
  let v293 : BitVec 32 := Scalar.addi c25_i32_272 v292
  let v294 : BitVec 32 := Scalar.select v282 arg6 v293
  let c4096_i32_273 : BitVec 32 := 4096#32
  let v295 : BitVec 32 := Scalar.muli v294 c4096_i32_273
  let c0_i32_274 : BitVec 32 := 0#32
  let c1_i32_275 : BitVec 32 := 1#32
  let arg9 : BitVec 32 := Scf.iv c0_i32_274 c1_i32_275 k0_t2
  let c64_i32_281 : BitVec 32 := 64#32
  let v305 : BitVec 32 := Scalar.muli arg9 c64_i32_281
  let v306 : BitVec 32 := Scalar.addi v295 v305
  let v307 : Index := Scalar.indexCast v306
  let c0_282 : Index := 0#32
  ![v307.toNat, 0]
def k0_cond1 (k0_t1 : Fin k0_t1_loop.trips) : BitVec 1 :=
  let c0_i32_90 : BitVec 32 := 0#32
  let c1_i32_91 : BitVec 32 := 1#32
  let arg6 : BitVec 32 := Scf.iv c0_i32_90 c1_i32_91 k0_t1
  let c4_i32_277 : BitVec 32 := 4#32
  let v298 : BitVec 32 := Scalar.addi arg6 c4_i32_277
  let c29_i32 : BitVec 32 := 29#32
  let v299 : BitVec 1 := Scalar.cmpi .sge v298 c29_i32
  let c4_i32_278 : BitVec 32 := 4#32
  let v300 : BitVec 32 := Scalar.addi arg6 c4_i32_278
  let c32_i32_279 : BitVec 32 := 32#32
  let v301 : BitVec 1 := Scalar.cmpi .slt v300 c32_i32_279
  let v302 : BitVec 1 := Scalar.andi v299 v301
  let v303 : BitVec 32 := Scalar.extui v302
  let c0_i32_280 : BitVec 32 := 0#32
  let v304 : BitVec 1 := Scalar.cmpi .ne v303 c0_i32_280
  v304

def k0_off5 (k0_t1 : Fin k0_t1_loop.trips) : Fin 1 → Nat :=
  let c0_i32_90 : BitVec 32 := 0#32
  let c1_i32_91 : BitVec 32 := 1#32
  let arg6 : BitVec 32 := Scf.iv c0_i32_90 c1_i32_91 k0_t1
  let c4_i32_281 : BitVec 32 := 4#32
  let v305 : BitVec 32 := Scalar.addi arg6 c4_i32_281
  let c25_i32_292 : BitVec 32 := 25#32
  let v321 : BitVec 1 := Scalar.cmpi .slt v305 c25_i32_292
  let c25_i32_299 : BitVec 32 := 25#32
  let c4_i32_293 : BitVec 32 := 4#32
  let c0_i32_294 : BitVec 32 := 0#32
  let v322 : BitVec 1 := Scalar.cmpi .eq c4_i32_293 c0_i32_294
  let c1_i32_295 : BitVec 32 := 1#32
  let v323 : BitVec 32 := Scalar.select v322 c1_i32_295 c4_i32_293
  let v324 : BitVec 32 := Scalar.remsi v305 v323
  let c0_i32_297 : BitVec 32 := 0#32
  let v326 : BitVec 1 := Scalar.cmpi .slt v324 c0_i32_297
  let c0_i32_298 : BitVec 32 := 0#32
  let v327 : BitVec 1 := Scalar.cmpi .slt v323 c0_i32_298
  let v328 : BitVec 1 := Scalar.xori v326 v327
  let c0_i32_296 : BitVec 32 := 0#32
  let v325 : BitVec 1 := Scalar.cmpi .ne v324 c0_i32_296
  let v329 : BitVec 1 := Scalar.andi v328 v325
  let v330 : BitVec 32 := Scalar.addi v324 v323
  let v331 : BitVec 32 := Scalar.select v329 v330 v324
  let v332 : BitVec 32 := Scalar.addi c25_i32_299 v331
  let v333 : BitVec 32 := Scalar.select v321 v305 v332
  ![v333.toNat]
def k0_off6 (k0_t1 : Fin k0_t1_loop.trips) : Fin 2 → Nat :=
  let c0_i32_90 : BitVec 32 := 0#32
  let c1_i32_91 : BitVec 32 := 1#32
  let arg6 : BitVec 32 := Scf.iv c0_i32_90 c1_i32_91 k0_t1
  let c4_i32_281 : BitVec 32 := 4#32
  let v305 : BitVec 32 := Scalar.addi arg6 c4_i32_281
  let c25_i32_283 : BitVec 32 := 25#32
  let v307 : BitVec 1 := Scalar.cmpi .slt v305 c25_i32_283
  let c25_i32_290 : BitVec 32 := 25#32
  let c4_i32_284 : BitVec 32 := 4#32
  let c0_i32_285 : BitVec 32 := 0#32
  let v308 : BitVec 1 := Scalar.cmpi .eq c4_i32_284 c0_i32_285
  let c1_i32_286 : BitVec 32 := 1#32
  let v309 : BitVec 32 := Scalar.select v308 c1_i32_286 c4_i32_284
  let v310 : BitVec 32 := Scalar.remsi v305 v309
  let c0_i32_288 : BitVec 32 := 0#32
  let v312 : BitVec 1 := Scalar.cmpi .slt v310 c0_i32_288
  let c0_i32_289 : BitVec 32 := 0#32
  let v313 : BitVec 1 := Scalar.cmpi .slt v309 c0_i32_289
  let v314 : BitVec 1 := Scalar.xori v312 v313
  let c0_i32_287 : BitVec 32 := 0#32
  let v311 : BitVec 1 := Scalar.cmpi .ne v310 c0_i32_287
  let v315 : BitVec 1 := Scalar.andi v314 v311
  let v316 : BitVec 32 := Scalar.addi v310 v309
  let v317 : BitVec 32 := Scalar.select v315 v316 v310
  let v318 : BitVec 32 := Scalar.addi c25_i32_290 v317
  let v319 : BitVec 32 := Scalar.select v307 v305 v318
  let c4096_i32_291 : BitVec 32 := 4096#32
  let v320 : BitVec 32 := Scalar.muli v319 c4096_i32_291
  let c0_i32_300 : BitVec 32 := 0#32
  ![v320.toNat, 0]
def k0_off7 (k0_t1 : Fin k0_t1_loop.trips) : Fin 2 → Nat :=
  let c0_i32_90 : BitVec 32 := 0#32
  let c1_i32_91 : BitVec 32 := 1#32
  let arg6 : BitVec 32 := Scf.iv c0_i32_90 c1_i32_91 k0_t1
  let c4_i32_281 : BitVec 32 := 4#32
  let v305 : BitVec 32 := Scalar.addi arg6 c4_i32_281
  let c4096_i32_282 : BitVec 32 := 4096#32
  let v306 : BitVec 32 := Scalar.muli v305 c4096_i32_282
  let c0_i32_301 : BitVec 32 := 0#32
  ![v306.toNat, 0]
@[reducible] def k0_t3_loop : Scf.Loop 32 :=
  let c0_i32_96 : BitVec 32 := 0#32
  let c32_i32_97 : BitVec 32 := 32#32
  let v133 : BitVec 32 := Scalar.addi c0_i32_96 c32_i32_97
  let c1_i32_98 : BitVec 32 := 1#32
  ⟨c0_i32_96, v133, c1_i32_98⟩
def k0_cond2 (k0_t3 : Fin k0_t3_loop.trips) : BitVec 1 :=
  let c0_i32_96 : BitVec 32 := 0#32
  let c1_i32_98 : BitVec 32 := 1#32
  let arg6 : BitVec 32 := Scf.iv c0_i32_96 c1_i32_98 k0_t3
  let c29_i32_259 : BitVec 32 := 29#32
  let v273 : BitVec 1 := Scalar.cmpi .sge arg6 c29_i32_259
  let v274 : BitVec 32 := Scalar.extui v273
  let c0_i32_260 : BitVec 32 := 0#32
  let v275 : BitVec 1 := Scalar.cmpi .ne v274 c0_i32_260
  v275

def k0_off8 (k0_t3 : Fin k0_t3_loop.trips) : Fin 1 → Nat :=
  let c0_i32_96 : BitVec 32 := 0#32
  let c1_i32_98 : BitVec 32 := 1#32
  let arg6 : BitVec 32 := Scf.iv c0_i32_96 c1_i32_98 k0_t3
  let c25_i32_248 : BitVec 32 := 25#32
  let v256 : BitVec 1 := Scalar.cmpi .slt arg6 c25_i32_248
  let c29_i32_249 : BitVec 32 := 29#32
  let v257 : BitVec 1 := Scalar.cmpi .slt arg6 c29_i32_249
  let c25_i32_257 : BitVec 32 := 25#32
  let c3_i32_250 : BitVec 32 := 3#32
  let v258 : BitVec 32 := Scalar.addi arg6 c3_i32_250
  let c4_i32_251 : BitVec 32 := 4#32
  let c0_i32_252 : BitVec 32 := 0#32
  let v259 : BitVec 1 := Scalar.cmpi .eq c4_i32_251 c0_i32_252
  let c1_i32_253 : BitVec 32 := 1#32
  let v260 : BitVec 32 := Scalar.select v259 c1_i32_253 c4_i32_251
  let v261 : BitVec 32 := Scalar.remsi v258 v260
  let c0_i32_255 : BitVec 32 := 0#32
  let v263 : BitVec 1 := Scalar.cmpi .slt v261 c0_i32_255
  let c0_i32_256 : BitVec 32 := 0#32
  let v264 : BitVec 1 := Scalar.cmpi .slt v260 c0_i32_256
  let v265 : BitVec 1 := Scalar.xori v263 v264
  let c0_i32_254 : BitVec 32 := 0#32
  let v262 : BitVec 1 := Scalar.cmpi .ne v261 c0_i32_254
  let v266 : BitVec 1 := Scalar.andi v265 v262
  let v267 : BitVec 32 := Scalar.addi v261 v260
  let v268 : BitVec 32 := Scalar.select v266 v267 v261
  let v269 : BitVec 32 := Scalar.addi c25_i32_257 v268
  let c29_i32_258 : BitVec 32 := 29#32
  let v270 : BitVec 32 := Scalar.subi arg6 c29_i32_258
  let v271 : BitVec 32 := Scalar.select v257 v269 v270
  let v272 : BitVec 32 := Scalar.select v256 arg6 v271
  ![v272.toNat]
def k0_off9 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c25_i32_248 : BitVec 32 := 25#32
  let v256 : BitVec 1 := Scalar.cmpi .slt arg6 c25_i32_248
  let c29_i32_249 : BitVec 32 := 29#32
  let v257 : BitVec 1 := Scalar.cmpi .slt arg6 c29_i32_249
  let c25_i32_257 : BitVec 32 := 25#32
  let c3_i32_250 : BitVec 32 := 3#32
  let v258 : BitVec 32 := Scalar.addi arg6 c3_i32_250
  let c4_i32_251 : BitVec 32 := 4#32
  let c0_i32_252 : BitVec 32 := 0#32
  let v259 : BitVec 1 := Scalar.cmpi .eq c4_i32_251 c0_i32_252
  let c1_i32_253 : BitVec 32 := 1#32
  let v260 : BitVec 32 := Scalar.select v259 c1_i32_253 c4_i32_251
  let v261 : BitVec 32 := Scalar.remsi v258 v260
  let c0_i32_255 : BitVec 32 := 0#32
  let v263 : BitVec 1 := Scalar.cmpi .slt v261 c0_i32_255
  let c0_i32_256 : BitVec 32 := 0#32
  let v264 : BitVec 1 := Scalar.cmpi .slt v260 c0_i32_256
  let v265 : BitVec 1 := Scalar.xori v263 v264
  let c0_i32_254 : BitVec 32 := 0#32
  let v262 : BitVec 1 := Scalar.cmpi .ne v261 c0_i32_254
  let v266 : BitVec 1 := Scalar.andi v265 v262
  let v267 : BitVec 32 := Scalar.addi v261 v260
  let v268 : BitVec 32 := Scalar.select v266 v267 v261
  let v269 : BitVec 32 := Scalar.addi c25_i32_257 v268
  let c29_i32_258 : BitVec 32 := 29#32
  let v270 : BitVec 32 := Scalar.subi arg6 c29_i32_258
  let v271 : BitVec 32 := Scalar.select v257 v269 v270
  let v272 : BitVec 32 := Scalar.select v256 arg6 v271
  let c4096_i32_273 : BitVec 32 := 4096#32
  let v290 : BitVec 32 := Scalar.muli v272 c4096_i32_273
  let c0_i32_274 : BitVec 32 := 0#32
  ![v290.toNat, 0]
def k0_off10 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c25_i32_245 : BitVec 32 := 25#32
  let v250 : BitVec 1 := Scalar.cmpi .slt arg6 c25_i32_245
  let c29_i32 : BitVec 32 := 29#32
  let v251 : BitVec 1 := Scalar.cmpi .slt arg6 c29_i32
  let c3_i32_246 : BitVec 32 := 3#32
  let v252 : BitVec 32 := Scalar.addi arg6 c3_i32_246
  let c4_i32_247 : BitVec 32 := 4#32
  let v253 : BitVec 32 := Scalar.subi arg6 c4_i32_247
  let v254 : BitVec 32 := Scalar.select v251 v252 v253
  let v255 : BitVec 32 := Scalar.select v250 arg6 v254
  let c4096_i32_272 : BitVec 32 := 4096#32
  let v289 : BitVec 32 := Scalar.muli v255 c4096_i32_272
  let c0_i32_275 : BitVec 32 := 0#32
  ![v289.toNat, 0]
@[reducible] def k0_t4_loop : Scf.Loop 32 :=
  let c0_i32_262 : BitVec 32 := 0#32
  let c64_i32 : BitVec 32 := 64#32
  let v277 : BitVec 32 := Scalar.addi c0_i32_262 c64_i32
  let c1_i32_263 : BitVec 32 := 1#32
  ⟨c0_i32_262, v277, c1_i32_263⟩
def k0_off11 (k0_t3 : Fin k0_t3_loop.trips) (k0_t4 : Fin k0_t4_loop.trips) : Fin 2 → Nat :=
  let c0_i32_96 : BitVec 32 := 0#32
  let c1_i32_98 : BitVec 32 := 1#32
  let arg6 : BitVec 32 := Scf.iv c0_i32_96 c1_i32_98 k0_t3
  let c25_i32_248 : BitVec 32 := 25#32
  let v256 : BitVec 1 := Scalar.cmpi .slt arg6 c25_i32_248
  let c29_i32_249 : BitVec 32 := 29#32
  let v257 : BitVec 1 := Scalar.cmpi .slt arg6 c29_i32_249
  let c25_i32_257 : BitVec 32 := 25#32
  let c3_i32_250 : BitVec 32 := 3#32
  let v258 : BitVec 32 := Scalar.addi arg6 c3_i32_250
  let c4_i32_251 : BitVec 32 := 4#32
  let c0_i32_252 : BitVec 32 := 0#32
  let v259 : BitVec 1 := Scalar.cmpi .eq c4_i32_251 c0_i32_252
  let c1_i32_253 : BitVec 32 := 1#32
  let v260 : BitVec 32 := Scalar.select v259 c1_i32_253 c4_i32_251
  let v261 : BitVec 32 := Scalar.remsi v258 v260
  let c0_i32_255 : BitVec 32 := 0#32
  let v263 : BitVec 1 := Scalar.cmpi .slt v261 c0_i32_255
  let c0_i32_256 : BitVec 32 := 0#32
  let v264 : BitVec 1 := Scalar.cmpi .slt v260 c0_i32_256
  let v265 : BitVec 1 := Scalar.xori v263 v264
  let c0_i32_254 : BitVec 32 := 0#32
  let v262 : BitVec 1 := Scalar.cmpi .ne v261 c0_i32_254
  let v266 : BitVec 1 := Scalar.andi v265 v262
  let v267 : BitVec 32 := Scalar.addi v261 v260
  let v268 : BitVec 32 := Scalar.select v266 v267 v261
  let v269 : BitVec 32 := Scalar.addi c25_i32_257 v268
  let c29_i32_258 : BitVec 32 := 29#32
  let v270 : BitVec 32 := Scalar.subi arg6 c29_i32_258
  let v271 : BitVec 32 := Scalar.select v257 v269 v270
  let v272 : BitVec 32 := Scalar.select v256 arg6 v271
  let c4096_i32_261 : BitVec 32 := 4096#32
  let v276 : BitVec 32 := Scalar.muli v272 c4096_i32_261
  let c0_i32_262 : BitVec 32 := 0#32
  let c1_i32_263 : BitVec 32 := 1#32
  let arg7 : BitVec 32 := Scf.iv c0_i32_262 c1_i32_263 k0_t4
  let c64_i32_272 : BitVec 32 := 64#32
  let v289 : BitVec 32 := Scalar.muli arg7 c64_i32_272
  let v290 : BitVec 32 := Scalar.addi v276 v289
  let v291 : Index := Scalar.indexCast v290
  let c0_273 : Index := 0#32
  ![v291.toNat, 0]
def k0_off12 (k0_t3 : Fin k0_t3_loop.trips) : Fin 1 → Nat :=
  let c0_i32_96 : BitVec 32 := 0#32
  let c1_i32_98 : BitVec 32 := 1#32
  let arg6 : BitVec 32 := Scf.iv c0_i32_96 c1_i32_98 k0_t3
  let c25_i32_248 : BitVec 32 := 25#32
  let v256 : BitVec 1 := Scalar.cmpi .slt arg6 c25_i32_248
  let c29_i32_249 : BitVec 32 := 29#32
  let v257 : BitVec 1 := Scalar.cmpi .slt arg6 c29_i32_249
  let c25_i32_257 : BitVec 32 := 25#32
  let c3_i32_250 : BitVec 32 := 3#32
  let v258 : BitVec 32 := Scalar.addi arg6 c3_i32_250
  let c4_i32_251 : BitVec 32 := 4#32
  let c0_i32_252 : BitVec 32 := 0#32
  let v259 : BitVec 1 := Scalar.cmpi .eq c4_i32_251 c0_i32_252
  let c1_i32_253 : BitVec 32 := 1#32
  let v260 : BitVec 32 := Scalar.select v259 c1_i32_253 c4_i32_251
  let v261 : BitVec 32 := Scalar.remsi v258 v260
  let c0_i32_255 : BitVec 32 := 0#32
  let v263 : BitVec 1 := Scalar.cmpi .slt v261 c0_i32_255
  let c0_i32_256 : BitVec 32 := 0#32
  let v264 : BitVec 1 := Scalar.cmpi .slt v260 c0_i32_256
  let v265 : BitVec 1 := Scalar.xori v263 v264
  let c0_i32_254 : BitVec 32 := 0#32
  let v262 : BitVec 1 := Scalar.cmpi .ne v261 c0_i32_254
  let v266 : BitVec 1 := Scalar.andi v265 v262
  let v267 : BitVec 32 := Scalar.addi v261 v260
  let v268 : BitVec 32 := Scalar.select v266 v267 v261
  let v269 : BitVec 32 := Scalar.addi c25_i32_257 v268
  let c29_i32_258 : BitVec 32 := 29#32
  let v270 : BitVec 32 := Scalar.subi arg6 c29_i32_258
  let v271 : BitVec 32 := Scalar.select v257 v269 v270
  let v272 : BitVec 32 := Scalar.select v256 arg6 v271
  ![v272.toNat]
def k0_off13 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c25_i32_245 : BitVec 32 := 25#32
  let v250 : BitVec 1 := Scalar.cmpi .slt arg6 c25_i32_245
  let c29_i32 : BitVec 32 := 29#32
  let v251 : BitVec 1 := Scalar.cmpi .slt arg6 c29_i32
  let c3_i32_246 : BitVec 32 := 3#32
  let v252 : BitVec 32 := Scalar.addi arg6 c3_i32_246
  let c4_i32_247 : BitVec 32 := 4#32
  let v253 : BitVec 32 := Scalar.subi arg6 c4_i32_247
  let v254 : BitVec 32 := Scalar.select v251 v252 v253
  let v255 : BitVec 32 := Scalar.select v250 arg6 v254
  let c4096_i32_266 : BitVec 32 := 4096#32
  let v279 : BitVec 32 := Scalar.muli v255 c4096_i32_266
  let c0_i32_267 : BitVec 32 := 0#32
  ![v279.toNat, 0]
def k0_off14 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c25_i32_248 : BitVec 32 := 25#32
  let v256 : BitVec 1 := Scalar.cmpi .slt arg6 c25_i32_248
  let c29_i32_249 : BitVec 32 := 29#32
  let v257 : BitVec 1 := Scalar.cmpi .slt arg6 c29_i32_249
  let c25_i32_257 : BitVec 32 := 25#32
  let c3_i32_250 : BitVec 32 := 3#32
  let v258 : BitVec 32 := Scalar.addi arg6 c3_i32_250
  let c4_i32_251 : BitVec 32 := 4#32
  let c0_i32_252 : BitVec 32 := 0#32
  let v259 : BitVec 1 := Scalar.cmpi .eq c4_i32_251 c0_i32_252
  let c1_i32_253 : BitVec 32 := 1#32
  let v260 : BitVec 32 := Scalar.select v259 c1_i32_253 c4_i32_251
  let v261 : BitVec 32 := Scalar.remsi v258 v260
  let c0_i32_255 : BitVec 32 := 0#32
  let v263 : BitVec 1 := Scalar.cmpi .slt v261 c0_i32_255
  let c0_i32_256 : BitVec 32 := 0#32
  let v264 : BitVec 1 := Scalar.cmpi .slt v260 c0_i32_256
  let v265 : BitVec 1 := Scalar.xori v263 v264
  let c0_i32_254 : BitVec 32 := 0#32
  let v262 : BitVec 1 := Scalar.cmpi .ne v261 c0_i32_254
  let v266 : BitVec 1 := Scalar.andi v265 v262
  let v267 : BitVec 32 := Scalar.addi v261 v260
  let v268 : BitVec 32 := Scalar.select v266 v267 v261
  let v269 : BitVec 32 := Scalar.addi c25_i32_257 v268
  let c29_i32_258 : BitVec 32 := 29#32
  let v270 : BitVec 32 := Scalar.subi arg6 c29_i32_258
  let v271 : BitVec 32 := Scalar.select v257 v269 v270
  let v272 : BitVec 32 := Scalar.select v256 arg6 v271
  let c4096_i32_265 : BitVec 32 := 4096#32
  let v278 : BitVec 32 := Scalar.muli v272 c4096_i32_265
  let c0_i32_268 : BitVec 32 := 0#32
  ![v278.toNat, 0]
def k0_cond3 (k0_t3 : Fin k0_t3_loop.trips) : BitVec 1 :=
  let c0_i32_96 : BitVec 32 := 0#32
  let c1_i32_98 : BitVec 32 := 1#32
  let arg6 : BitVec 32 := Scf.iv c0_i32_96 c1_i32_98 k0_t3
  let c3_i32_269 : BitVec 32 := 3#32
  let v284 : BitVec 1 := Scalar.cmpi .sge arg6 c3_i32_269
  let c6_i32_270 : BitVec 32 := 6#32
  let v285 : BitVec 1 := Scalar.cmpi .slt arg6 c6_i32_270
  let v286 : BitVec 1 := Scalar.andi v284 v285
  let v287 : BitVec 32 := Scalar.extui v286
  let c0_i32_271 : BitVec 32 := 0#32
  let v288 : BitVec 1 := Scalar.cmpi .ne v287 c0_i32_271
  v288

def k0_off15 (k0_t3 : Fin k0_t3_loop.trips) : Fin 1 → Nat :=
  let c0_i32_96 : BitVec 32 := 0#32
  let c1_i32_98 : BitVec 32 := 1#32
  let arg6 : BitVec 32 := Scf.iv c0_i32_96 c1_i32_98 k0_t3
  let c3_i32_272 : BitVec 32 := 3#32
  let v289 : BitVec 32 := Scalar.subi arg6 c3_i32_272
  ![v289.toNat]
def k0_off16 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c3_i32_272 : BitVec 32 := 3#32
  let v289 : BitVec 32 := Scalar.subi arg6 c3_i32_272
  let c4096_i32_274 : BitVec 32 := 4096#32
  let v291 : BitVec 32 := Scalar.muli v289 c4096_i32_274
  let c0_i32_275 : BitVec 32 := 0#32
  ![v291.toNat, 0]
def k0_off17 (k0_t3 : Fin k0_t3_loop.trips) : Fin 2 → Nat :=
  let c0_i32_96 : BitVec 32 := 0#32
  let c1_i32_98 : BitVec 32 := 1#32
  let arg6 : BitVec 32 := Scf.iv c0_i32_96 c1_i32_98 k0_t3
  let c3_i32_272 : BitVec 32 := 3#32
  let v289 : BitVec 32 := Scalar.subi arg6 c3_i32_272
  let c4096_i32_273 : BitVec 32 := 4096#32
  let v290 : BitVec 32 := Scalar.muli v289 c4096_i32_273
  let c0_i32_276 : BitVec 32 := 0#32
  ![v290.toNat, 0]
def k0_off18 (k0_t3 : Fin k0_t3_loop.trips) : Fin 2 → Nat :=
  let c25_i32_277 : BitVec 32 := 25#32
  let c0_i32_96 : BitVec 32 := 0#32
  let c1_i32_98 : BitVec 32 := 1#32
  let arg6 : BitVec 32 := Scf.iv c0_i32_96 c1_i32_98 k0_t3
  let c3_i32_272 : BitVec 32 := 3#32
  let v289 : BitVec 32 := Scalar.subi arg6 c3_i32_272
  let v296 : BitVec 32 := Scalar.addi c25_i32_277 v289
  let c4096_i32_278 : BitVec 32 := 4096#32
  let v297 : BitVec 32 := Scalar.muli v296 c4096_i32_278
  let c0_i32_281 : BitVec 32 := 0#32
  ![v297.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16777216 : Shape := ⟨1, ![16777216]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S_, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S_, .f32⟩
  | .hbm, ⟨77, _⟩ => ⟨S16777216, .f32⟩
  | .hbm, ⟨78, _⟩ => ⟨S16777216, .f32⟩
  | .hbm, ⟨79, _⟩ => ⟨S16777216, .f32⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S16777216, .f32⟩
  | .hbm, ⟨85, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_1 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_c_4 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_c_6 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_v9 : Ref sig .tc := ⟨.hbm, 22, rfl⟩
abbrev main_c_7 : Ref sig .tc := ⟨.hbm, 23, rfl⟩
abbrev main_c_8 : Ref sig .tc := ⟨.hbm, 24, rfl⟩
abbrev main_v10 : Ref sig .tc := ⟨.hbm, 25, rfl⟩
abbrev main_c_9 : Ref sig .tc := ⟨.hbm, 26, rfl⟩
abbrev main_v11 : Ref sig .tc := ⟨.hbm, 27, rfl⟩
abbrev main_c_10 : Ref sig .tc := ⟨.hbm, 28, rfl⟩
abbrev main_v12 : Ref sig .tc := ⟨.hbm, 29, rfl⟩
abbrev main_v13 : Ref sig .tc := ⟨.hbm, 30, rfl⟩
abbrev main_call2_c : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_c_11 : Ref sig .tc := ⟨.hbm, 35, rfl⟩
abbrev main_v16 : Ref sig .tc := ⟨.hbm, 36, rfl⟩
abbrev main_c_12 : Ref sig .tc := ⟨.hbm, 37, rfl⟩
abbrev main_v17 : Ref sig .tc := ⟨.hbm, 38, rfl⟩
abbrev main_v18 : Ref sig .tc := ⟨.hbm, 39, rfl⟩
abbrev main_call3_c : Ref sig .tc := ⟨.hbm, 40, rfl⟩
abbrev main_call3_v0 : Ref sig .tc := ⟨.hbm, 41, rfl⟩
abbrev main_v19 : Ref sig .tc := ⟨.hbm, 42, rfl⟩
abbrev main_v20 : Ref sig .tc := ⟨.hbm, 43, rfl⟩
abbrev main_c_13 : Ref sig .tc := ⟨.hbm, 44, rfl⟩
abbrev main_v21 : Ref sig .tc := ⟨.hbm, 45, rfl⟩
abbrev main_c_14 : Ref sig .tc := ⟨.hbm, 46, rfl⟩
abbrev main_v22 : Ref sig .tc := ⟨.hbm, 47, rfl⟩
abbrev main_v23 : Ref sig .tc := ⟨.hbm, 48, rfl⟩
abbrev main_call4_c : Ref sig .tc := ⟨.hbm, 49, rfl⟩
abbrev main_call4_v0 : Ref sig .tc := ⟨.hbm, 50, rfl⟩
abbrev main_v24 : Ref sig .tc := ⟨.hbm, 51, rfl⟩
abbrev main_v25 : Ref sig .tc := ⟨.hbm, 52, rfl⟩
abbrev main_c_15 : Ref sig .tc := ⟨.hbm, 53, rfl⟩
abbrev main_v26 : Ref sig .tc := ⟨.hbm, 54, rfl⟩
abbrev main_c_16 : Ref sig .tc := ⟨.hbm, 55, rfl⟩
abbrev main_v27 : Ref sig .tc := ⟨.hbm, 56, rfl⟩
abbrev main_v28 : Ref sig .tc := ⟨.hbm, 57, rfl⟩
abbrev main_call5_c : Ref sig .tc := ⟨.hbm, 58, rfl⟩
abbrev main_call5_v0 : Ref sig .tc := ⟨.hbm, 59, rfl⟩
abbrev main_v29 : Ref sig .tc := ⟨.hbm, 60, rfl⟩
abbrev main_v30 : Ref sig .tc := ⟨.hbm, 61, rfl⟩
abbrev main_c_17 : Ref sig .tc := ⟨.hbm, 62, rfl⟩
abbrev main_v31 : Ref sig .tc := ⟨.hbm, 63, rfl⟩
abbrev main_c_18 : Ref sig .tc := ⟨.hbm, 64, rfl⟩
abbrev main_v32 : Ref sig .tc := ⟨.hbm, 65, rfl⟩
abbrev main_v33 : Ref sig .tc := ⟨.hbm, 66, rfl⟩
abbrev main_call6_c : Ref sig .tc := ⟨.hbm, 67, rfl⟩
abbrev main_call6_v0 : Ref sig .tc := ⟨.hbm, 68, rfl⟩
abbrev main_v34 : Ref sig .tc := ⟨.hbm, 69, rfl⟩
abbrev main_v35 : Ref sig .tc := ⟨.hbm, 70, rfl⟩
abbrev main_c_19 : Ref sig .tc := ⟨.hbm, 71, rfl⟩
abbrev main_v36 : Ref sig .tc := ⟨.hbm, 72, rfl⟩
abbrev main_c_20 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩

abbrev nD : Nat := 1
abbrev τ : Topo := Topo.v7x

variable {F : FTy → Type} [FloatOps F]
-- ==== Proof.Slots.lean ====
/-
  The kernel's buffers and transfers as a state machine.

  The kernel keeps 29 slots of 4096 rows in its scratch buffer and moves the 32 chunks of its input through them. This
  module names the pieces — slot `s` of the scratch buffer, chunk `j` of the input and of the output, the two cells of
  slot `s` —, says what each slot, input chunk and output chunk is doing (`St`), turns such a state into the memory it
  owns (`held`), and proves one rule for each transfer the kernel starts or waits for, as a step of the state machine.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffixV
public import Idealize.ShloMosaic.Lib.Transfers
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The pieces -/

/-- Slot `s` of the scratch buffer: its rows `4096 s` to `4096 s + 4095`. -/
def slotM (s : Fin 29) : Memref sig .tc .vmem S4096x128 .f32 :=
  (Memref.whole cc0_scratch0).slice (Rect.unit (s := S118784x128) ![4096 * s.val, 0] S4096x128.size
    (by intro a; fin_cases a <;> simp [S4096x128, S118784x128] <;> omega)) (fun _ => rfl)

/-- Chunk `j` of the input: its rows `4096 j` to `4096 j + 4095`. -/
def inM (j : Fin 32) : Memref sig .tc .hbm S4096x128 .f32 :=
  (Memref.whole main_v0).slice (Rect.unit (s := S131072x128) ![4096 * j.val, 0] S4096x128.size
    (by intro a; fin_cases a <;> simp [S4096x128, S131072x128] <;> omega)) (fun _ => rfl)

/-- Chunk `j` of the output. -/
def outM (j : Fin 32) : Memref sig .tc .hbm S4096x128 .f32 :=
  (Memref.whole main_v38).slice (Rect.unit (s := S131072x128) ![4096 * j.val, 0] S4096x128.size
    (by intro a; fin_cases a <;> simp [S4096x128, S131072x128] <;> omega)) (fun _ => rfl)

/-- The cell a transfer into slot `s` signals. -/
def inC (s : Fin 29) : DmaSem sig := ⟨1 + s.val, by have := s.isLt; show _ < 59; omega⟩
/-- The cell a transfer out of slot `s` signals. -/
def outC (s : Fin 29) : DmaSem sig := ⟨30 + s.val, by have := s.isLt; show _ < 59; omega⟩

/-- A slice of the scratch buffer at a slot's offset is the slot. -/
theorem slice_slot (s : Fin 29) (off : Fin 2 → ℕ) (h) (e : off = ![4096 * s.val, 0]) :
    (Memref.whole cc0_scratch0 : Memref sig .tc .vmem S118784x128 .f32).slice
      (Rect.unit (s := S118784x128) off S4096x128.size h) (fun _ => rfl) = slotM s := by
  subst e; rfl

/-- A slice of the input at a chunk's offset is the chunk. -/
theorem slice_in (j : Fin 32) (off : Fin 2 → ℕ) (h) (e : off = ![4096 * j.val, 0]) :
    (Memref.whole main_v0 : Memref sig .tc .hbm S131072x128 .f32).slice
      (Rect.unit (s := S131072x128) off S4096x128.size h) (fun _ => rfl) = inM j := by
  subst e; rfl

/-- A slice of the output at a chunk's offset is the chunk. -/
theorem slice_out (j : Fin 32) (off : Fin 2 → ℕ) (h) (e : off = ![4096 * j.val, 0]) :
    (Memref.whole main_v38 : Memref sig .tc .hbm S131072x128 .f32).slice
      (Rect.unit (s := S131072x128) off S4096x128.size h) (fun _ => rfl) = outM j := by
  subst e; rfl

/-- The cell the kernel names by index `s` of its first array of cells. -/
theorem cell_in (s : Fin 29) (off : Fin 1 → ℕ) (h) (e : off = ![s.val]) :
    ((cc0_scratch1.slice (Rect.unit (s := S29) off S1.size h)).squeeze S_ squeezes_S1_S_).sem = inC s := by
  subst e; revert h; revert s; decide +kernel

/-- The cell the kernel names by index `s` of its second array of cells. -/
theorem cell_out (s : Fin 29) (off : Fin 1 → ℕ) (h) (e : off = ![s.val]) :
    ((cc0_scratch2.slice (Rect.unit (s := S29) off S1.size h)).squeeze S_ squeezes_S1_S_).sem = outC s := by
  subst e; revert h; revert s; decide +kernel

/-! ## The states -/

/-- What a slot is doing: nothing; receiving chunk `j`; holding chunk `j` as read; holding it quantised; sending it. -/
inductive SlotSt
  | idle
  | infl (j : Fin 32)
  | raw (j : Fin 32)
  | quant (j : Fin 32)
  | out (j : Fin 32)
  deriving DecidableEq

/-- What a chunk of the output holds: what it held at the start; a transfer has it; the quantised chunk. -/
inductive OutSt
  | fresh
  | lent
  | done
  deriving DecidableEq

/-- The state: each slot's, whether the core holds each input chunk, each output chunk's. -/
@[ext] structure St where
  slot : Fin 29 → SlotSt
  src : Fin 32 → Bool
  dst : Fin 32 → OutSt

/-- What a chunk holds. -/
abbrev Chunk (F : FTy → Type) [FloatOps F] : Type := S4096x128.Idx → Elt F .f32

variable (c : Dev nD) (X Q : Fin 32 → Chunk F)

/-- The memory a slot's state owns. -/
def slotHeld (s : Fin 29) : SlotSt → sProp 𝕄
  | .idle => iprop((∃ d, owns (c : Thread nD τ) (slotM s) fullShare d)
      ∗ semVal ((c : Thread nD τ), .dma (inC s)) 0 ∗ semVal ((c : Thread nD τ), .dma (outC s)) 0)
  | .infl j => iprop(Transfers.Flight (countersEmb (nD := nD) (τ := τ) (sig := sig)) (c : Thread nD τ) (.dma (inC s)) () (slotM s).view.dmaCredit
        iprop(owns (c : Thread nD τ) (slotM s) fullShare (X j) ∗ owns (c : Thread nD τ) (inM j) fullShare (X j))
      ∗ semVal ((c : Thread nD τ), .dma (outC s)) 0)
  | .raw j => iprop(owns (c : Thread nD τ) (slotM s) fullShare (X j)
      ∗ semVal ((c : Thread nD τ), .dma (inC s)) 0 ∗ semVal ((c : Thread nD τ), .dma (outC s)) 0)
  | .quant j => iprop(owns (c : Thread nD τ) (slotM s) fullShare (Q j)
      ∗ semVal ((c : Thread nD τ), .dma (inC s)) 0 ∗ semVal ((c : Thread nD τ), .dma (outC s)) 0)
  | .out j => iprop(Transfers.Flight (countersEmb (nD := nD) (τ := τ) (sig := sig)) (c : Thread nD τ) (.dma (outC s)) () (outM 0).view.dmaCredit
        iprop(owns (c : Thread nD τ) (outM j) fullShare (Q j) ∗ owns (c : Thread nD τ) (slotM s) fullShare (Q j))
      ∗ semVal ((c : Thread nD τ), .dma (inC s)) 0)

/-- The memory an input chunk owns: the chunk if the core holds it, nothing while a transfer reads it. -/
def srcHeld (j : Fin 32) : Bool → sProp 𝕄
  | true => owns (c : Thread nD τ) (inM j) fullShare (X j)
  | false => iprop(emp)

/-- The memory an output chunk owns. -/
def dstHeld (j : Fin 32) : OutSt → sProp 𝕄
  | .fresh => iprop(∃ d, owns (c : Thread nD τ) (outM j) fullShare d)
  | .lent => iprop(emp)
  | .done => owns (c : Thread nD τ) (outM j) fullShare (Q j)

/-- The memory a state owns, with the core's record of its waits. -/
def held (st : St) : sProp 𝕄 :=
  iprop(bigSep Finset.univ (fun s => slotHeld c X Q s (st.slot s))
    ∗ bigSep Finset.univ (fun j => srcHeld c X j (st.src j))
    ∗ bigSep Finset.univ (fun j => dstHeld c Q j (st.dst j))
    ∗ ∃ W, owes (c : Thread nD τ) 0 W)

/-- One member of a separating family taken out, to be put back at another family that agrees elsewhere. -/
theorem bigSep_swap {I : Type} [Fintype I] [DecidableEq I] (a : I) (Φ Ψ : I → sProp 𝕄) (h : ∀ b, b ≠ a → Φ b = Ψ b) :
    bigSep Finset.univ Φ ⊢ iprop(Φ a ∗ (Ψ a -∗ bigSep Finset.univ Ψ)) := by
  have e₁ : bigSep Finset.univ Φ = iprop(Φ a ∗ bigSep (Finset.univ.erase a) Φ) := bigSep_univ_split a
  have e₂ : bigSep Finset.univ Ψ = iprop(Ψ a ∗ bigSep (Finset.univ.erase a) Ψ) := bigSep_univ_split a
  rw [e₁, e₂, bigSep_congr (Ψ := Ψ) fun b hb => h b (Finset.ne_of_mem_erase hb)]
  iintro ⟨Ha, Hr⟩
  isplitl [Ha]; · iexact Ha
  iintro Hb
  isplitl [Hb]; · iexact Hb
  iexact Hr

/-- One family member whose state is updated. -/
theorem bigSep_update {I A : Type} [Fintype I] [DecidableEq I] (Φ : I → A → sProp 𝕄) (f : I → A) (i : I) (a b : A) (h : f i = a) :
    bigSep Finset.univ (fun k => Φ k (f k)) ⊢ iprop(Φ i a ∗ (Φ i b -∗ bigSep Finset.univ (fun k => Φ k (Function.update f i b k)))) := by
  refine (bigSep_swap i _ (fun k => Φ k (Function.update f i b k)) fun k hk => ?_).trans ?_
  · rw [Function.update_of_ne hk]
  · rw [Function.update_self, h]

/-! ## The steps -/

/-- Chunk `j` starts into slot `s`. -/
def St.startIn (st : St) (s : Fin 29) (j : Fin 32) : St :=
  { st with slot := Function.update st.slot s (.infl j), src := Function.update st.src j false }
/-- Chunk `j` has arrived in slot `s`. -/
def St.waitIn (st : St) (s : Fin 29) (j : Fin 32) : St :=
  { st with slot := Function.update st.slot s (.raw j), src := Function.update st.src j true }
/-- Slot `s` is quantised in place. -/
def St.quantise (st : St) (s : Fin 29) (j : Fin 32) : St :=
  { st with slot := Function.update st.slot s (.quant j) }
/-- Slot `s` starts out to chunk `j`. -/
def St.startOut (st : St) (s : Fin 29) (j : Fin 32) : St :=
  { st with slot := Function.update st.slot s (.out j), dst := Function.update st.dst j .lent }
/-- Slot `s` has been sent. -/
def St.waitOut (st : St) (s : Fin 29) (j : Fin 32) : St :=
  { st with slot := Function.update st.slot s .idle, dst := Function.update st.dst j .done }

/-- What a core holds of a memref, from its elements' contents. -/
theorem owns_of {sp : Space} {sh : Shape} {e : EltTy} (m : Memref sig .tc sp sh e) (f : m.view.ty.Contents (Elt F)) (d : sh.Idx → Elt F e)
    (h : m.view.read (Elt F) f = d) :
    (m.view.loc (c : Thread nD τ) ↦[m.view.set]{fullShare} f : sProp 𝕄) ⊢ owns (c : Thread nD τ) m fullShare d := by
  subst h; exact owns_intro (c : Thread nD τ) m fullShare f

/-- A local transfer between two memrefs the core holds starts, on a cell at zero. -/
theorem wp_start {sp sp' : Space} (src : Memref sig .tc sp S4096x128 .f32) (dst : Memref sig .tc sp' S4096x128 .f32) (sm : DmaSem sig)
    {hsrc : src.view.WordExact} {hdst : dst.view.WordExact} {hsem : DmaTarget.Typed (nD := nD) (τ := τ) (p := Proc.tc) sp (.dma sm) (.here dst)}
    (d d' : Chunk F) (Ψ : PUnit → sProp 𝕄) :
    iprop(owns (c : Thread nD τ) src fullShare d ∗ owns (c : Thread nD τ) dst fullShare d' ∗ semVal ((c : Thread nD τ), .dma sm) 0)
      ⊢ iprop((Transfers.Flight (countersEmb (nD := nD) (τ := τ) (sig := sig)) (c : Thread nD τ) (.dma sm) () dst.view.dmaCredit
            iprop(owns (c : Thread nD τ) dst fullShare d ∗ owns (c : Thread nD τ) src fullShare d) -∗ Ψ ⟨⟩)
          -∗ wp frame (wpE (defs₀ (F := F)) Variants.none (c : Thread nD τ) none) Set.univ
            (Prog.lift (.enqueueDma src (.here dst) (.dma sm) hsrc hdst hsem)) Ψ) := by
  unfold owns
  iintro ⟨⟨%f, %hf, Hs⟩, ⟨%f', %hf', Hd⟩, Hv⟩ Hk
  iapply (Transfers.wp_dmaLocal (countersEmb (nD := nD) (τ := τ) (sig := sig)) Variants.none (c : Thread nD τ) none () dst.view.dmaCredit rfl
    (dst.view.dmaCredit_pos (by decide)) (Finset.Subset.refl _)) $$ [Hs Hd Hv]
  · isplitl [Hs]; · iexact Hs
    isplitl [Hd]; · iexact Hd
    iexact Hv
  iintro Hf
  rw [wp_ret]
  imodintro
  iapply Hk
  iapply (Transfers.Flight_mono (D := _) (D' := _) (countersEmb (nD := nD) (τ := τ) (sig := sig)) _ ?_) $$ Hf
  iintro ⟨Hd, Hs⟩
  isplitl [Hd]
  · iexists (dst.view.write (Elt F) f' (ReadAs.same.apply (src.view.read (Elt F) f)) Finset.univ)
    isplitr
    · ipureintro; exact (View.read_write_univ _ _).trans hf
    · iexact Hd
  · iexists f
    isplitr
    · ipureintro; exact hf
    · iexact Hs

/-- Waiting for a local transfer the core started, at the transfer's credit. -/
theorem wp_await {sp sp' : Space} (srcw : Memref sig .tc sp' S4096x128 .f32) (dstw : Memref sig .tc sp S4096x128 .f32) (sm : DmaSem sig)
    {hsrc : srcw.view.WordExact} {hdst : dstw.view.WordExact} (N : ℕ) (hN : dstw.view.dmaCredit = N) (D : sProp 𝕄) (Ψ : PUnit → sProp 𝕄) :
    iprop(Transfers.Flight (countersEmb (nD := nD) (τ := τ) (sig := sig)) (c : Thread nD τ) (.dma sm) () N D ∗ ∃ W, owes (c : Thread nD τ) 0 W)
      ⊢ iprop((iprop(D ∗ semVal ((c : Thread nD τ), .dma sm) 0 ∗ ∃ W, owes (c : Thread nD τ) 0 W) -∗ Ψ ⟨⟩)
          -∗ wp frame (wpE (defs₀ (F := F)) Variants.none (c : Thread nD τ) none) Set.univ
            (Prog.lift (.waitDma2 sm srcw dstw hsrc hdst)) Ψ) := by
  iintro ⟨Hf, ⟨%W, HO⟩⟩ Hk
  iapply (Transfers.wp_waitLocal (countersEmb (nD := nD) (τ := τ) (sig := sig)) Variants.none (c : Thread nD τ) none () hN) $$ [Hf HO]
  · isplitl [Hf]; · iexact Hf
    iexact HO
  iintro ⟨HD, Hv, HO⟩
  rw [wp_ret]
  imodintro
  iapply Hk
  isplitl [HD]; · iexact HD
  isplitl [Hv]; · iexact Hv
  iexists _
  iexact HO

/-- Starting chunk `j` into the idle slot `s`. -/
theorem step_startIn (st : St) (s : Fin 29) (j : Fin 32) (h₁ : st.slot s = .idle) (h₂ : st.src j = true)
    (src : Memref sig .tc .hbm S4096x128 .f32) (dst : Memref sig .tc .vmem S4096x128 .f32) (sm : DmaSem sig)
    (e₁ : src = inM j) (e₂ : dst = slotM s) (e₃ : sm = inC s)
    {hsrc : src.view.WordExact} {hdst : dst.view.WordExact} {hsem : DmaTarget.Typed (nD := nD) (τ := τ) (p := Proc.tc) .hbm (.dma sm) (.here dst)}
    (Ψ : PUnit → sProp 𝕄) :
    held c X Q st ⊢ iprop((held c X Q (st.startIn s j) -∗ Ψ ⟨⟩)
      -∗ wp frame (wpE (defs₀ (F := F)) Variants.none (c : Thread nD τ) none) Set.univ
            (Prog.lift (.enqueueDma src (.here dst) (.dma sm) hsrc hdst hsem)) Ψ) := by
  subst e₁ e₂ e₃
  unfold held
  iintro ⟨Hs, Hx, Ho, HW⟩ Hk
  ihave Hs' := (bigSep_update (slotHeld c X Q) st.slot s .idle (.infl j) h₁) $$ Hs
  icases Hs' with ⟨Hsl, Hs⟩
  ihave Hx' := (bigSep_update (srcHeld c X) st.src j true false h₂) $$ Hx
  icases Hx' with ⟨Hxj, Hx⟩
  simp only [slotHeld, srcHeld]
  icases Hsl with ⟨⟨%d, Hb⟩, Hi, Hou⟩
  iapply (wp_start c (inM j) (slotM s) (inC s) (X j) d Ψ) $$ [Hxj Hb Hi]
  · isplitl [Hxj]; · iexact Hxj
    isplitl [Hb]; · iexact Hb
    iexact Hi
  iintro Hf
  iapply Hk
  isplitl [Hs Hf Hou]
  · iapply Hs
    isplitl [Hf]; · iexact Hf
    iexact Hou
  isplitl [Hx]
  · iapply Hx
    iempintro
  isplitl [Ho]; · iexact Ho
  iexact HW

/-- Waiting for chunk `j` to have arrived in slot `s`. -/
theorem step_waitIn (st : St) (s : Fin 29) (j : Fin 32) (h₁ : st.slot s = .infl j)
    (srcw : Memref sig .tc .hbm S4096x128 .f32) (dstw : Memref sig .tc .vmem S4096x128 .f32) (sm : DmaSem sig)
    (e₂ : dstw = slotM s) (e₃ : sm = inC s) {hsrc : srcw.view.WordExact} {hdst : dstw.view.WordExact}
    (h₂ : st.src j = false) (Ψ : PUnit → sProp 𝕄) :
    held c X Q st ⊢ iprop((held c X Q (st.waitIn s j) -∗ Ψ ⟨⟩)
      -∗ wp frame (wpE (defs₀ (F := F)) Variants.none (c : Thread nD τ) none) Set.univ
            (Prog.lift (.waitDma2 sm srcw dstw hsrc hdst)) Ψ) := by
  subst e₂ e₃
  unfold held
  iintro ⟨Hs, Hx, Ho, HW⟩ Hk
  ihave Hs' := (bigSep_update (slotHeld c X Q) st.slot s (.infl j) (.raw j) h₁) $$ Hs
  icases Hs' with ⟨Hsl, Hs⟩
  ihave Hx' := (bigSep_update (srcHeld c X) st.src j false true h₂) $$ Hx
  icases Hx' with ⟨Hxj, Hx⟩
  simp only [slotHeld, srcHeld]
  icases Hsl with ⟨Hf, Hou⟩
  iapply (wp_await c srcw (slotM s) (inC s) _ rfl _ Ψ) $$ [Hf HW]
  · isplitl [Hf]; · iexact Hf
    iexact HW
  iintro ⟨⟨Hb, Hin⟩, Hi, HW⟩
  iapply Hk
  isplitl [Hs Hb Hi Hou]
  · iapply Hs
    isplitl [Hb]; · iexact Hb
    isplitl [Hi]; · iexact Hi
    iexact Hou
  isplitl [Hx Hin]
  · iapply Hx
    iexact Hin
  isplitl [Ho]; · iexact Ho
  iexact HW

/-- Starting the quantised slot `s` out to chunk `j`. -/
theorem step_startOut (st : St) (s : Fin 29) (j : Fin 32) (h₁ : st.slot s = .quant j) (h₂ : st.dst j = .fresh)
    (src : Memref sig .tc .vmem S4096x128 .f32) (dst : Memref sig .tc .hbm S4096x128 .f32) (sm : DmaSem sig)
    (e₁ : src = slotM s) (e₂ : dst = outM j) (e₃ : sm = outC s)
    {hsrc : src.view.WordExact} {hdst : dst.view.WordExact} {hsem : DmaTarget.Typed (nD := nD) (τ := τ) (p := Proc.tc) .vmem (.dma sm) (.here dst)}
    (Ψ : PUnit → sProp 𝕄) :
    held c X Q st ⊢ iprop((held c X Q (st.startOut s j) -∗ Ψ ⟨⟩)
      -∗ wp frame (wpE (defs₀ (F := F)) Variants.none (c : Thread nD τ) none) Set.univ
            (Prog.lift (.enqueueDma src (.here dst) (.dma sm) hsrc hdst hsem)) Ψ) := by
  subst e₁ e₂ e₃
  unfold held
  iintro ⟨Hs, Hx, Ho, HW⟩ Hk
  ihave Hs' := (bigSep_update (slotHeld c X Q) st.slot s (.quant j) (.out j) h₁) $$ Hs
  icases Hs' with ⟨Hsl, Hs⟩
  ihave Ho' := (bigSep_update (dstHeld c Q) st.dst j .fresh .lent h₂) $$ Ho
  icases Ho' with ⟨Hoj, Ho⟩
  simp only [slotHeld, dstHeld]
  icases Hsl with ⟨Hb, Hi, Hou⟩
  icases Hoj with ⟨%d, Hoj⟩
  iapply (wp_start c (slotM s) (outM j) (outC s) (Q j) d Ψ) $$ [Hoj Hb Hou]
  · isplitl [Hb]; · iexact Hb
    isplitl [Hoj]; · iexact Hoj
    iexact Hou
  iintro Hf
  iapply Hk
  isplitl [Hs Hf Hi]
  · iapply Hs
    isplitl [Hf]; · iexact Hf
    iexact Hi
  isplitl [Hx]; · iexact Hx
  isplitl [Ho]
  · iapply Ho
    iempintro
  iexact HW

/-- Waiting for slot `s` to have been sent to chunk `j`; the wait may name any chunk of the output. -/
theorem step_waitOut (st : St) (s : Fin 29) (j j' : Fin 32) (h₁ : st.slot s = .out j) (h₂ : st.dst j = .lent)
    (srcw : Memref sig .tc .vmem S4096x128 .f32) (dstw : Memref sig .tc .hbm S4096x128 .f32) (sm : DmaSem sig)
    (e₂ : dstw = outM j') (e₃ : sm = outC s) {hsrc : srcw.view.WordExact} {hdst : dstw.view.WordExact} (Ψ : PUnit → sProp 𝕄) :
    held c X Q st ⊢ iprop((held c X Q (st.waitOut s j) -∗ Ψ ⟨⟩)
      -∗ wp frame (wpE (defs₀ (F := F)) Variants.none (c : Thread nD τ) none) Set.univ
            (Prog.lift (.waitDma2 sm srcw dstw hsrc hdst)) Ψ) := by
  subst e₂ e₃
  unfold held
  iintro ⟨Hs, Hx, Ho, HW⟩ Hk
  ihave Hs' := (bigSep_update (slotHeld c X Q) st.slot s (.out j) .idle h₁) $$ Hs
  icases Hs' with ⟨Hsl, Hs⟩
  ihave Ho' := (bigSep_update (dstHeld c Q) st.dst j .lent .done h₂) $$ Ho
  icases Ho' with ⟨Hoj, Ho⟩
  simp only [slotHeld, dstHeld]
  icases Hsl with ⟨Hf, Hi⟩
  iapply (wp_await c srcw (outM j') (outC s) _ rfl _ Ψ) $$ [Hf HW]
  · isplitl [Hf]; · iexact Hf
    iexact HW
  iintro ⟨⟨Hoj, Hb⟩, Hou, HW⟩
  iapply Hk
  isplitl [Hs Hb Hi Hou]
  · iapply Hs
    isplitl [Hb]
    · iexists _
      iexact Hb
    isplitl [Hi]; · iexact Hi
    iexact Hou
  isplitl [Hx]; · iexact Hx
  isplitl [Ho Hoj]
  · iapply Ho
    iexact Hoj
  iexact HW

/-- A slot whose chunk is no longer needed becomes idle. -/
def St.drop (st : St) (s : Fin 29) : St :=
  { st with slot := Function.update st.slot s .idle }

/-- A slot holding a chunk lends it: what comes back is the slot's state at the chunk as read, or quantised. -/
theorem held_borrow (st : St) (s : Fin 29) (j : Fin 32) (h₁ : st.slot s = .raw j) (b : SlotSt) :
    held c X Q st ⊢ iprop(slotHeld c X Q s (.raw j)
      ∗ (slotHeld c X Q s b -∗ held c X Q { st with slot := Function.update st.slot s b })) := by
  unfold held
  iintro ⟨Hs, Hx, Ho, HW⟩
  ihave Hs' := (bigSep_update (slotHeld c X Q) st.slot s (.raw j) b h₁) $$ Hs
  icases Hs' with ⟨Hsl, Hs⟩
  isplitl [Hsl]; · iexact Hsl
  iintro Hb
  isplitl [Hs Hb]
  · iapply Hs
    iexact Hb
  isplitl [Hx]; · iexact Hx
  isplitl [Ho]; · iexact Ho
  iexact HW

/-- A slot holding a chunk as read lends it, to have it back unchanged. -/
theorem held_read (st : St) (s : Fin 29) (j : Fin 32) (h₁ : st.slot s = .raw j) :
    held c X Q st ⊢ iprop(owns (c : Thread nD τ) (slotM s) fullShare (X j)
      ∗ (owns (c : Thread nD τ) (slotM s) fullShare (X j) -∗ held c X Q st)) := by
  have e : ({ st with slot := Function.update st.slot s (.raw j) } : St) = st := by
    rw [← h₁, Function.update_eq_self]
  iintro H
  ihave H' := (held_borrow c X Q st s j h₁ (.raw j)) $$ H
  rw [e]
  simp only [slotHeld]
  icases H' with ⟨⟨Hb, Hv⟩, Hk⟩
  isplitl [Hb]; · iexact Hb
  iintro Hb
  iapply Hk
  isplitl [Hb]; · iexact Hb
  iexact Hv

/-- A slot holding a chunk as read lends it, to have it back quantised. -/
theorem held_quantise (st : St) (s : Fin 29) (j : Fin 32) (h₁ : st.slot s = .raw j) :
    held c X Q st ⊢ iprop(owns (c : Thread nD τ) (slotM s) fullShare (X j)
      ∗ (owns (c : Thread nD τ) (slotM s) fullShare (Q j) -∗ held c X Q (st.quantise s j))) := by
  iintro H
  ihave H' := (held_borrow c X Q st s j h₁ (.quant j)) $$ H
  simp only [slotHeld]
  icases H' with ⟨⟨Hb, Hv⟩, Hk⟩
  isplitl [Hb]; · iexact Hb
  iintro Hb
  iapply Hk
  isplitl [Hb]; · iexact Hb
  iexact Hv

/-- A slot holding a chunk may be taken as idle. -/
theorem held_drop (st : St) (s : Fin 29) (j : Fin 32) (h₁ : st.slot s = .raw j) :
    held c X Q st ⊢ held c X Q (st.drop s) := by
  iintro H
  ihave H' := (held_borrow c X Q st s j h₁ .idle) $$ H
  simp only [slotHeld]
  icases H' with ⟨⟨Hb, Hv⟩, Hk⟩
  iapply Hk
  isplitl [Hb]
  · iexists _
    iexact Hb
  iexact Hv

end Cert.KernelIdeal.Hand
-- ==== Proof.Schedule.lean ====
/-
  The kernel's schedule: the state of the slots at each point of the program, and what the kernel's computed offsets and
  conditions are at each trip of its loops.

  Chunk `j` goes to slot `j` for `j < 25`, and to slot `25 + j mod 4` after. The first phase starts the first 29 chunks,
  then waits for each of the 32 in order, starting chunks 29 to 31 as slots come free. The second phase finds 29 chunks
  still in their slots, quantises and sends each, and reads chunks 25, 26 and 27 a second time into slots 0, 1 and 2.
-/
module

public import proofs.«01_k».proof.Proof.Slots

@[expose] public section

set_option maxRecDepth 65536

noncomputable section

namespace Cert.KernelIdeal.Hand

open Cert.KernelIdeal Cert.KernelIdeal.Gen
open Idealize.ShloMosaic

/-- The slot the first phase reads chunk `j` into. -/
def slotOf (j : Fin 32) : Fin 29 :=
  if h : j.val < 25 then ⟨j.val, by omega⟩ else ⟨25 + j.val % 4, by omega⟩

/-- The chunk the second phase quantises at trip `t`. -/
def chunkAt (t : Fin 32) : Fin 32 :=
  if t.val < 25 then t else if h : t.val < 29 then ⟨t.val + 3, by omega⟩ else ⟨t.val - 4, by omega⟩

/-- The slot the second phase finds it in. -/
def slotAt (t : Fin 32) : Fin 29 :=
  if h : t.val < 29 then slotOf (chunkAt t) else ⟨t.val - 29, by omega⟩

/-- The chunk slot `s` sends last. -/
def lastOf (s : Fin 29) : Fin 32 :=
  if h : s.val < 3 then ⟨s.val + 25, by omega⟩ else if h : s.val < 25 then ⟨s.val, by omega⟩ else ⟨s.val + 3, by omega⟩

/-- After the first `n` transfers of the first phase have started. -/
def st0 : ℕ → St
  | 0 => { slot := fun _ => .idle, src := fun _ => true, dst := fun _ => .fresh }
  | n + 1 => (st0 n).startIn (slotOf (Fin.ofNat 32 n)) (Fin.ofNat 32 n)

/-- A trip of the first phase, once its chunk has arrived. -/
abbrev got1 (st : St) (i : Fin 32) : St := st.waitIn (slotOf i) i
/-- A trip of the first phase that starts another chunk: chunk `i + 4` goes to the same slot. -/
abbrev refill1 (st : St) (i : Fin 32) : St := (st.drop (slotOf i)).startIn (slotOf i) (Fin.ofNat 32 (i.val + 4))
/-- One trip of the first phase. -/
def trip1 (st : St) (i : Fin 32) : St :=
  if 25 ≤ i.val ∧ i.val < 28 then refill1 (got1 st i) i else got1 st i

/-- Before trip `n` of the first phase. -/
def st1 : ℕ → St
  | 0 => st0 29
  | n + 1 => trip1 (st1 n) (Fin.ofNat 32 n)

/-- A trip of the second phase, once its chunk is in its slot. -/
def got2 (st : St) (t : Fin 32) : St := if 29 ≤ t.val then st.waitIn (slotAt t) (chunkAt t) else st
/-- A trip of the second phase, once its chunk is on the way out. -/
abbrev sent2 (st : St) (t : Fin 32) : St := (st.quantise (slotAt t) (chunkAt t)).startOut (slotAt t) (chunkAt t)
/-- The slot trips 3, 4 and 5 of the second phase refill. -/
def freeAt (t : Fin 32) : Fin 29 := if h : 3 ≤ t.val then ⟨t.val - 3, by omega⟩ else 0
/-- The chunk they refill it with. -/
def againAt (t : Fin 32) : Fin 32 := Fin.ofNat 32 (t.val + 22)
/-- A trip of the second phase that refills a slot. -/
abbrev refill2 (st : St) (t : Fin 32) : St :=
  (st.waitOut (freeAt t) (Fin.ofNat 32 (freeAt t).val)).startIn (freeAt t) (againAt t)
/-- One trip of the second phase. -/
def trip2 (st : St) (t : Fin 32) : St :=
  if 3 ≤ t.val ∧ t.val < 6 then refill2 (sent2 (got2 st t) t) t else sent2 (got2 st t) t

/-- Before trip `n` of the second phase. -/
def st2 : ℕ → St
  | 0 => st1 32
  | n + 1 => trip2 (st2 n) (Fin.ofNat 32 n)

/-- After the first `n` slots' last transfers have been waited for. -/
def st3 : ℕ → St
  | 0 => st2 32
  | n + 1 => (st3 n).waitOut (Fin.ofNat 29 n) (lastOf (Fin.ofNat 29 n))

/-! ## What each step needs of the state -/

/-- Before start `n`, its slot is idle and its chunk of the input is there. -/
theorem pre0 : ∀ n : Fin 29, (st0 n.val).slot (slotOf (Fin.ofNat 32 n.val)) = .idle ∧ (st0 n.val).src (Fin.ofNat 32 n.val) = true := by
  decide +kernel

/-- Before trip `i` of the first phase, chunk `i` is on its way into its slot. -/
theorem pre1 : ∀ i : Fin 32, (st1 i.val).slot (slotOf i) = .infl i ∧ (st1 i.val).src i = false := by
  decide +kernel

/-- Once it is awaited, the slot holds it. -/
theorem got1_raw (st : St) (i : Fin 32) : (got1 st i).slot (slotOf i) = .raw i := Function.update_self ..

/-- A trip that starts another chunk has an idle slot for it, and the chunk is there. -/
theorem pre1_refill : ∀ i : Fin 32, 25 ≤ i.val ∧ i.val < 28 →
    ((got1 (st1 i.val) i).drop (slotOf i)).slot (slotOf i) = .idle ∧ ((got1 (st1 i.val) i).drop (slotOf i)).src (Fin.ofNat 32 (i.val + 4)) = true := by
  decide +kernel

/-- Before a trip of the second phase that waits for its chunk, the chunk is on its way into its slot. -/
theorem pre2 : ∀ t : Fin 32, 29 ≤ t.val → (st2 t.val).slot (slotAt t) = .infl (chunkAt t) ∧ (st2 t.val).src (chunkAt t) = false := by
  decide +kernel

/-- Every trip of the second phase has its chunk in its slot before it quantises it, … -/
theorem pre2_raw : ∀ t : Fin 32, (got2 (st2 t.val) t).slot (slotAt t) = .raw (chunkAt t) := by
  decide +kernel

/-- … has it quantised there before it sends it, and finds its place in the output not yet written. -/
theorem pre2_out : ∀ t : Fin 32, ((got2 (st2 t.val) t).quantise (slotAt t) (chunkAt t)).slot (slotAt t) = .quant (chunkAt t)
    ∧ ((got2 (st2 t.val) t).quantise (slotAt t) (chunkAt t)).dst (chunkAt t) = .fresh := by
  decide +kernel

/-- A trip that refills a slot finds the slot on its way out, and once that is awaited, idle, with the new chunk there. -/
theorem pre2_free : ∀ t : Fin 32, 3 ≤ t.val ∧ t.val < 6 →
    (sent2 (got2 (st2 t.val) t) t).slot (freeAt t) = .out (Fin.ofNat 32 (freeAt t).val)
    ∧ (sent2 (got2 (st2 t.val) t) t).dst (Fin.ofNat 32 (freeAt t).val) = .lent
    ∧ ((sent2 (got2 (st2 t.val) t) t).waitOut (freeAt t) (Fin.ofNat 32 (freeAt t).val)).slot (freeAt t) = .idle
    ∧ ((sent2 (got2 (st2 t.val) t) t).waitOut (freeAt t) (Fin.ofNat 32 (freeAt t).val)).src (againAt t) = true := by
  decide +kernel

/-- Before slot `n` is awaited at the end, its last chunk is on its way out. -/
theorem pre3 : ∀ n : Fin 29, (st3 n.val).slot n = .out (lastOf n) ∧ (st3 n.val).dst (lastOf n) = .lent := by
  decide +kernel

/-- At the end every slot is idle, every input chunk is back, and every output chunk is written. -/
theorem st3_end : st3 29 = { slot := fun _ => .idle, src := fun _ => true, dst := fun _ => .done } := by
  have h : (∀ s, (st3 29).slot s = .idle) ∧ (∀ j, (st3 29).src j = true) ∧ ∀ j, (st3 29).dst j = .done := by decide +kernel
  exact St.ext (funext h.1) (funext h.2.1) (funext h.2.2)

/-! ## The kernel's offsets and conditions -/

/-- A trip of the first phase's loop, as a chunk. -/
def ofT1 (t : Fin k0_t1_loop.trips) : Fin 32 := Fin.ofNat 32 t.val
/-- A trip of the second phase's loop. -/
def ofT3 (t : Fin k0_t3_loop.trips) : Fin 32 := Fin.ofNat 32 t.val

/-- A trip of the first phase and its chunk have one number. -/
theorem ofT1_val : ∀ t : Fin k0_t1_loop.trips, (ofT1 t).val = t.val := by decide +kernel
/-- A trip of the second phase keeps its number. -/
theorem ofT3_val : ∀ t : Fin k0_t3_loop.trips, (ofT3 t).val = t.val := by decide +kernel

/-- First phase: the semaphore awaited is its slot's, … -/
theorem off1_eq : ∀ t : Fin k0_t1_loop.trips, k0_off1 t = ![(slotOf (ofT1 t)).val] := by decide +kernel
/-- … the memory is its slot, … -/
theorem off2_eq : ∀ t : Fin k0_t1_loop.trips, k0_off2 t = ![4096 * (slotOf (ofT1 t)).val, 0] := by decide +kernel
/-- … the input's part is its chunk, … -/
theorem off3_eq : ∀ t : Fin k0_t1_loop.trips, k0_off3 t = ![4096 * (ofT1 t).val, 0] := by decide +kernel
/-- … and the inner loop reads its slot's blocks. -/
theorem off4_eq : ∀ (t : Fin k0_t1_loop.trips) (k : Fin k0_t2_loop.trips), k0_off4 t k = ![4096 * (slotOf (ofT1 t)).val + 64 * k.val, 0] := by
  decide +kernel
/-- Trips 25, 26 and 27 start another chunk, … -/
theorem cond1_iff : ∀ t : Fin k0_t1_loop.trips, k0_cond1 t = 1#1 ↔ 25 ≤ (ofT1 t).val ∧ (ofT1 t).val < 28 := by decide +kernel
/-- … on the same slot's semaphore, … -/
theorem off5_eq : ∀ t : Fin k0_t1_loop.trips, k0_cond1 t = 1#1 → k0_off5 t = ![(slotOf (ofT1 t)).val] := by decide +kernel
/-- … into the same slot, … -/
theorem off6_eq : ∀ t : Fin k0_t1_loop.trips, k0_cond1 t = 1#1 → k0_off6 t = ![4096 * (slotOf (ofT1 t)).val, 0] := by decide +kernel
/-- … namely the chunk four ahead. -/
theorem off7_eq : ∀ t : Fin k0_t1_loop.trips, k0_cond1 t = 1#1 → k0_off7 t = ![4096 * (Fin.ofNat 32 ((ofT1 t).val + 4)).val, 0] := by decide +kernel

/-- Second phase: trips from 29 on wait for their chunk, … -/
theorem cond2_iff : ∀ t : Fin k0_t3_loop.trips, k0_cond2 t = 1#1 ↔ 29 ≤ (ofT3 t).val := by decide +kernel
/-- … on their slot's semaphore, … -/
theorem off8_eq : ∀ t : Fin k0_t3_loop.trips, k0_cond2 t = 1#1 → k0_off8 t = ![(slotAt (ofT3 t)).val] := by decide +kernel
/-- … in their slot. -/
theorem off9_eq : ∀ t : Fin k0_t3_loop.trips, k0_cond2 t = 1#1 → k0_off9 t = ![4096 * (slotAt (ofT3 t)).val, 0] := by decide +kernel
/-- The inner loop goes over the slot's blocks. -/
theorem off11_eq : ∀ (t : Fin k0_t3_loop.trips) (k : Fin k0_t4_loop.trips), k0_off11 t k = ![4096 * (slotAt (ofT3 t)).val + 64 * k.val, 0] := by
  decide +kernel
/-- The copy out is on the slot's semaphore, … -/
theorem off12_eq : ∀ t : Fin k0_t3_loop.trips, k0_off12 t = ![(slotAt (ofT3 t)).val] := by decide +kernel
/-- … to the chunk's place in the output, … -/
theorem off13_eq : ∀ t : Fin k0_t3_loop.trips, k0_off13 t = ![4096 * (chunkAt (ofT3 t)).val, 0] := by decide +kernel
/-- … from the slot. -/
theorem off14_eq : ∀ t : Fin k0_t3_loop.trips, k0_off14 t = ![4096 * (slotAt (ofT3 t)).val, 0] := by decide +kernel
/-- Trips 3, 4 and 5 refill a slot: … -/
theorem cond3_iff : ∀ t : Fin k0_t3_loop.trips, k0_cond3 t = 1#1 ↔ 3 ≤ (ofT3 t).val ∧ (ofT3 t).val < 6 := by decide +kernel
/-- … they wait on its semaphore, … -/
theorem off15_eq : ∀ t : Fin k0_t3_loop.trips, k0_cond3 t = 1#1 → k0_off15 t = ![(freeAt (ofT3 t)).val] := by decide +kernel
/-- … for the chunk it was sending, … -/
theorem off16_eq : ∀ t : Fin k0_t3_loop.trips, k0_cond3 t = 1#1 → k0_off16 t = ![4096 * (Fin.ofNat 32 (freeAt (ofT3 t)).val).val, 0] := by decide +kernel
/-- … then start into that slot … -/
theorem off17_eq : ∀ t : Fin k0_t3_loop.trips, k0_cond3 t = 1#1 → k0_off17 t = ![4096 * (freeAt (ofT3 t)).val, 0] := by decide +kernel
/-- … the chunk that was displaced. -/
theorem off18_eq : ∀ t : Fin k0_t3_loop.trips, k0_cond3 t = 1#1 → k0_off18 t = ![4096 * (againAt (ofT3 t)).val, 0] := by decide +kernel

end Cert.KernelIdeal.Hand
-- ==== Proof.Inner.lean ====
/-
  The kernel's two inner loops, over the 64 blocks of 64 rows of one slot: the running minimum and maximum of the first
  phase, and the quantisation in place of the second.
-/
module

public import proofs.«01_k».proof.Proof.Schedule
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Blocks of rows -/

/-- Rows `64 k` to `64 k + 63` of a chunk. -/
def rowsR (k : Fin 64) : Rect S4096x128 :=
  Rect.unit (s := S4096x128) ![64 * k.val, 0] S64x128.size (by intro a; fin_cases a <;> simp [S4096x128, S64x128] <;> omega)

/-- Block `k` of a chunk's contents. -/
def blk (d : Chunk F) (k : Fin 64) : Vec F S64x128 .f32 := fun i => d ((rowsR k).emb i)

/-- The rectangle of slot `s` in the scratch buffer. -/
def slotR (s : Fin 29) : Rect S118784x128 :=
  Rect.unit (s := S118784x128) ![4096 * s.val, 0] S4096x128.size (by intro a; fin_cases a <;> simp [S4096x128, S118784x128] <;> omega)

/-- A block the kernel reads, by its offset in the scratch buffer, is a block of its slot. -/
theorem emb_block (s : Fin 29) (k : Fin 64) (off : Fin 2 → ℕ) (h) (e : off = ![4096 * s.val + 64 * k.val, 0]) (i : S64x128.Idx) :
    (Rect.unit (s := S118784x128) off S64x128.size h).emb i = (slotR s).emb ((rowsR k).emb i) := by
  subst e
  funext a
  apply Fin.ext
  show ![4096 * s.val + 64 * k.val, 0] a + 1 * (i a).val = ![4096 * s.val, 0] a + 1 * (![64 * k.val, 0] a + 1 * (i a).val)
  have h₂ : ![4096 * s.val + 64 * k.val, 0] a = ![4096 * s.val, 0] a + ![64 * k.val, 0] a := by fin_cases a <;> rfl
  rw [h₂]
  omega

/-- A block of a slot lies in the slot. -/
theorem block_sub (s : Fin 29) (k : Fin 64) (off : Fin 2 → ℕ) (h) (e : off = ![4096 * s.val + 64 * k.val, 0]) :
    (Rect.unit (s := S118784x128) off S64x128.size h).set ⊆ (slotR s).set := by
  intro x hx
  rw [← Rect.map_emb_univ, Finset.mem_map] at hx
  obtain ⟨i, -, rfl⟩ := hx
  rw [emb_block s k off h e i, ← Rect.map_emb_univ]
  exact Finset.mem_map_of_mem _ (Finset.mem_univ _)

/-- A slot covers its rectangle of the scratch buffer. -/
theorem slotM_set (s : Fin 29) : (slotM s).view.set = (slotR s).set := View.set_slice_whole _ _

/-- Reading a block of a slot whose contents are `d`. -/
theorem read_block (s : Fin 29) (k : Fin 64) (off : Fin 2 → ℕ) (h) (e : off = ![4096 * s.val + 64 * k.val, 0])
    (f : cc0_scratch0.ty.Contents (Elt F)) (d : Chunk F) (hf : (slotM s).view.read (Elt F) f = d) :
    ((Memref.whole cc0_scratch0 : Memref sig .tc .vmem S118784x128 .f32).access (Rect.unit (s := S118784x128) off S64x128.size h)).read (Elt F) f = blk d k := by
  subst hf
  funext i
  show f ((Rect.unit (s := S118784x128) off S64x128.size h).emb i) = f ((slotR s).emb ((rowsR k).emb i))
  rw [emb_block s k off h e]

/-- A slot the core holds is its rectangle of the scratch buffer. -/
theorem slot_open (c : Dev nD) (s : Fin 29) (d : Chunk F) :
    (owns (c : Thread nD τ) (slotM s) fullShare d : sProp 𝕄)
      ⊢ iprop(∃ f : Buf (Elt F) ((c : Thread nD τ).loc cc0_scratch0), ⌜(slotM s).view.read (Elt F) f = d⌝
          ∗ ((c : Thread nD τ).loc cc0_scratch0 ↦[(slotR s).set]{fullShare} f)) := by
  rw [← slotM_set s]
  exact .rfl

/-- The rectangle of a slot, with contents that read as `d`, is the slot holding `d`. -/
theorem slot_close (c : Dev nD) (s : Fin 29) (d : Chunk F) (f : Buf (Elt F) ((c : Thread nD τ).loc cc0_scratch0))
    (h : (slotM s).view.read (Elt F) f = d) :
    ((c : Thread nD τ).loc cc0_scratch0 ↦[(slotR s).set]{fullShare} f : sProp 𝕄) ⊢ owns (c : Thread nD τ) (slotM s) fullShare d := by
  rw [← slotM_set s]
  exact owns_of c (slotM s) f d h

/-- Loading a block of a slot the core holds. -/
theorem wp_loadBlock (c : Dev nD) (s : Fin 29) (k : Fin 64) (off : Fin 2 → ℕ) (h) (e : off = ![4096 * s.val + 64 * k.val, 0]) (d : Chunk F)
    {hl : (Memref.whole cc0_scratch0 : Memref sig .tc .vmem S118784x128 .f32).view.LoadsAt (Rect.unit (s := S118784x128) off S64x128.size h).toLoadRect}
    (Ψ : Vec F S64x128 .f32 → sProp 𝕄) :
    owns (c : Thread nD τ) (slotM s) fullShare d
      ⊢ iprop((owns (c : Thread nD τ) (slotM s) fullShare d -∗ Ψ (blk d k))
        -∗ wp frame (wpE (defs₀ (F := F)) Variants.none (c : Thread nD τ) none) Set.univ
          (Prog.lift (.load (Memref.whole cc0_scratch0 : Memref sig .tc .vmem S118784x128 .f32)
            (Rect.unit (s := S118784x128) off S64x128.size h).toLoadRect hl)) Ψ) := by
  iintro H Hk
  ihave H' := (slot_open c s d) $$ H
  icases H' with ⟨%f, %hf, H⟩
  iapply (wp_load_rect Variants.none (c : Thread nD τ) none Set.univ (m := Memref.whole cc0_scratch0)
    (r := Rect.unit (s := S118784x128) off S64x128.size h) (S := (slotR s).set) (f := f)
    ((View.set_slice_whole _ _).trans_subset (block_sub s k off h e))) $$ H
  iintro H
  rw [wp_ret]
  imodintro
  rw [read_block s k off h e f d hf]
  iapply Hk
  iapply (slot_close c s d f hf) $$ H

/-- The contents `d` with block `k` replaced. -/
def putBlk (d : Chunk F) (k : Fin 64) (w : Vec F S64x128 .f32) : Chunk F := (rowsR k).overlay d w

/-- Writing a block of a slot. -/
theorem read_writeBlock (s : Fin 29) (k : Fin 64) (off : Fin 2 → ℕ) (h) (e : off = ![4096 * s.val + 64 * k.val, 0])
    (f : cc0_scratch0.ty.Contents (Elt F)) (d : Chunk F) (hf : (slotM s).view.read (Elt F) f = d) (w : Vec F S64x128 .f32) :
    (slotM s).view.read (Elt F) (((Memref.whole cc0_scratch0 : Memref sig .tc .vmem S118784x128 .f32).access
        (Rect.unit (s := S118784x128) off S64x128.size h)).write (Elt F) f w Finset.univ) = putBlk d k w := by
  subst hf
  funext y
  by_cases hy : y ∈ (rowsR k).set
  · obtain ⟨i, rfl⟩ := (rowsR k).exists_idx_of_mem hy
    refine Eq.trans ?_ (Rect.overlay_emb (rowsR k) _ w i).symm
    have hm := View.write_emb_of_mem (v := (Memref.whole cc0_scratch0 : Memref sig .tc .vmem S118784x128 .f32).access
        (Rect.unit (s := S118784x128) off S64x128.size h)) f w (Finset.mem_univ i)
    exact (congrArg _ (emb_block s k off h e i).symm).trans hm
  · refine Eq.trans ?_ (Rect.overlay_of_not_mem (rowsR k) _ w hy).symm
    refine View.write_of_not_mem (v := (Memref.whole cc0_scratch0 : Memref sig .tc .vmem S118784x128 .f32).access
        (Rect.unit (s := S118784x128) off S64x128.size h)) f w Finset.univ (i := (slotR s).emb y) fun hm => hy ?_
    obtain ⟨i, -, hi⟩ := Finset.mem_map.mp hm
    have h' : (slotR s).emb ((rowsR k).emb i) = (slotR s).emb y := (emb_block s k off h e i).symm.trans hi
    rw [← (slotR s).emb.injective h', ← Rect.map_emb_univ]
    exact Finset.mem_map_of_mem _ (Finset.mem_univ _)

/-- Storing a block of a slot the core holds. -/
theorem wp_storeBlock (c : Dev nD) (s : Fin 29) (k : Fin 64) (off : Fin 2 → ℕ) (h) (e : off = ![4096 * s.val + 64 * k.val, 0]) (d : Chunk F)
    (w : Vec F S64x128 .f32)
    {hx : ((Memref.whole cc0_scratch0 : Memref sig .tc .vmem S118784x128 .f32).access (Rect.unit (s := S118784x128) off S64x128.size h)).Stores Finset.univ}
    {hm} (Ψ : PUnit → sProp 𝕄) :
    owns (c : Thread nD τ) (slotM s) fullShare d
      ⊢ iprop((owns (c : Thread nD τ) (slotM s) fullShare (putBlk d k w) -∗ Ψ ⟨⟩)
        -∗ wp frame (wpE (defs₀ (F := F)) Variants.none (c : Thread nD τ) none) Set.univ
          (Prog.lift (.store (Memref.whole cc0_scratch0 : Memref sig .tc .vmem S118784x128 .f32)
            (Rect.unit (s := S118784x128) off S64x128.size h) w Finset.univ hx hm)) Ψ) := by
  iintro H Hk
  ihave H' := (slot_open c s d) $$ H
  icases H' with ⟨%f, %hf, H⟩
  iapply (wp_store Variants.none (c : Thread nD τ) none Set.univ (m := Memref.whole cc0_scratch0)
    (r := Rect.unit (s := S118784x128) off S64x128.size h) (S := (slotR s).set) (f := f)
    ((View.setOn_subset_set _ _).trans ((View.set_slice_whole _ _).trans_subset (block_sub s k off h e)))) $$ H
  iintro H
  rw [wp_ret]
  imodintro
  iapply Hk
  iapply (slot_close c s _ _ (read_writeBlock s k off h e f d hf w)) $$ H

/-! ## The first phase's inner loop -/

/-- The running minimum and maximum over the first `n` blocks of a chunk. -/
def accBlk (d : Chunk F) (a : FVec F S64x128 .f32 × FVec F S64x128 .f32) : ℕ → FVec F S64x128 .f32 × FVec F S64x128 .f32
  | 0 => a
  | n + 1 => (minimumf (accBlk d a n).1 (blk d (Fin.ofNat 64 n)), maximumf (accBlk d a n).2 (blk d (Fin.ofNat 64 n)))

/-- The kernel's operands: its memrefs and its cells. -/
abbrev xW : Memref sig .tc .hbm S131072x128 .f32 := Memref.whole main_v0
/-- The output, whole. -/
abbrev oW : Memref sig .tc .hbm S131072x128 .f32 := Memref.whole main_v38
/-- The scratch buffer, whole. -/
abbrev bW : Memref sig .tc .vmem S118784x128 .f32 := Memref.whole cc0_scratch0

/-- The first phase's inner loop has at most 64 trips. -/
theorem trips2 : ∀ k : Fin k0_t2_loop.trips, k.val < 64 := by decide +kernel
/-- So has the second phase's. -/
theorem trips4 : ∀ k : Fin k0_t4_loop.trips, k.val < 64 := by decide +kernel

/-- The first phase's inner loop reads its slot's blocks in order. -/
theorem wp_inner1 (c : Dev nD) (a0 : Memref sig .tc .smem S1 .f32) (ha0 : a0.IsWhole) (v116 v118 : FVec F S64x128 .f32) (c0 c1 : BitVec 32)
    (t : Fin k0_t1_loop.trips) (d : Chunk F) (init : FVec F S64x128 .f32 × FVec F S64x128 .f32)
    (Ψ : FVec F S64x128 .f32 × FVec F S64x128 .f32 → sProp 𝕄) :
    owns (c : Thread nD τ) (slotM (slotOf (ofT1 t))) fullShare d
      ⊢ iprop((owns (c : Thread nD τ) (slotM (slotOf (ofT1 t))) fullShare d -∗ Ψ (accBlk d init 64))
        -∗ wp frame (wpE (defs₀ (F := F)) Variants.none (c : Thread nD τ) none) Set.univ
          (Scf.Loop.for k0_t2_loop k0_t2_ok init
            (k0_t2_body a0 ha0 xW (Memref.isWhole_whole _) oW (Memref.isWhole_whole _) bW (Memref.isWhole_whole _)
              cc0_scratch1 cc0_scratch2 v116 v118 c0 c1 t)) Ψ) := by
  iintro H Hk
  iapply (Scf.wp_for frame (wpE (defs₀ (F := F)) Variants.none (c : Thread nD τ) none) Set.univ k0_t2_loop.lb k0_t2_loop.ub k0_t2_loop.st
    k0_t2_ok init _ (fun n acc => iprop(⌜acc = accBlk d init n⌝ ∗ owns (c : Thread nD τ) (slotM (slotOf (ofT1 t))) fullShare d)) ?_)
  · rintro k acc
    iintro ⟨%hacc, H⟩
    unfold k0_t2_body
    obtain ⟨p, q⟩ := acc
    simp only []
    rw [wp_bind]
    have hk := trips2 k
    have hn : Fin.ofNat 64 k.val = ⟨k.val, hk⟩ := Fin.ext (Nat.mod_eq_of_lt hk)
    iapply (wp_loadBlock c (slotOf (ofT1 t)) ⟨k.val, hk⟩ _ _ (off4_eq t k) d) $$ H
    iintro H
    rw [wp_pure]
    imodintro
    isplitr
    · ipureintro
      rw [accBlk, ← hacc, hn]
      rfl
    · iexact H
  · isplitl [H]
    · isplitr
      · ipureintro; rfl
      · iexact H
    · have ht : Scf.trips k0_t2_loop.lb k0_t2_loop.ub k0_t2_loop.st = 64 := by decide +kernel
      rw [ht]
      iintro %acc ⟨%hacc, H⟩
      subst hacc
      iapply Hk $$ H

/-! ## The second phase's inner loop -/

/-- What the kernel writes over an element: the nearest step to it, from the minimum. -/
def quantF (mn sc inv x : F .f32) : F .f32 :=
  FloatOps.addf (FloatOps.mulf (FloatOps.roundeven (FloatOps.mulf (FloatOps.subf x mn) inv)) sc) mn

/-- What the second phase stores is each element it read, quantised. -/
theorem pay1_eq (mn sc inv : F .f32) (v : Vec F S64x128 .f32) : k0_pay1 mn sc inv v = fun i => quantF mn sc inv (v i) := by
  unfold k0_pay1
  exact shapeCast_self _ _

/-- A chunk whose first `n` blocks are quantised. -/
def quantBlk (mn sc inv : F .f32) (d : Chunk F) (n : ℕ) : Chunk F :=
  fun y => if (y 0).val < 64 * n then quantF mn sc inv (d y) else d y

/-- Row `i` of block `k` is row `64 k + i` of the chunk. -/
theorem rowsR_emb0 (k : Fin 64) (i : S64x128.Idx) : ((rowsR k).emb i 0).val = 64 * k.val + (i 0).val := by
  show 64 * k.val + 1 * (i 0).val = _
  omega

/-- Quantising block `n` of a chunk whose first `n` blocks are. -/
theorem quantBlk_succ (mn sc inv : F .f32) (d : Chunk F) (k : Fin 64) :
    putBlk (quantBlk mn sc inv d k.val) k (k0_pay1 mn sc inv (blk (quantBlk mn sc inv d k.val) k)) = quantBlk mn sc inv d (k.val + 1) := by
  rw [pay1_eq]
  funext y
  by_cases hy : y ∈ (rowsR k).set
  · obtain ⟨i, hiy⟩ := (rowsR k).exists_idx_of_mem hy
    have hiy' : (rowsR k).emb i = y := hiy
    subst hiy'
    refine (Rect.overlay_emb (rowsR k) _ _ i).trans ?_
    have h0 := rowsR_emb0 k i
    have hi : (i 0).val < 64 := (i 0).isLt
    unfold blk quantBlk
    rw [if_neg (by omega), if_pos (by omega)]
  · refine (Rect.overlay_of_not_mem (rowsR k) _ _ hy).trans ?_
    have hn : ¬ (64 * k.val ≤ (y 0).val ∧ (y 0).val < 64 * k.val + 64) := fun hc => hy ?_
    · unfold quantBlk
      by_cases h1 : (y 0).val < 64 * k.val
      · rw [if_pos h1, if_pos (by omega)]
      · rw [if_neg h1, if_neg (by omega)]
    · rw [← Rect.map_emb_univ]
      refine Finset.mem_map.mpr ⟨(fun a => if h : a = 0 then ⟨(y 0).val - 64 * k.val, by subst h; show _ < 64; omega⟩ else ⟨(y a).val, ?_⟩), Finset.mem_univ _, ?_⟩
      · fin_cases a
        · exact absurd rfl h
        · exact (y 1).isLt
      · funext a
        apply Fin.ext
        show ![64 * k.val, 0] a + 1 * _ = _
        fin_cases a
        · simp; omega
        · simp

/-- The second phase's inner loop quantises its slot in place. -/
theorem wp_inner2 (c : Dev nD) (a0 : Memref sig .tc .smem S1 .f32) (ha0 : a0.IsWhole) (mn sc inv : F .f32) (c0 c1 : BitVec 32)
    (t : Fin k0_t3_loop.trips) (d : Chunk F) (Ψ : Unit → sProp 𝕄) :
    owns (c : Thread nD τ) (slotM (slotAt (ofT3 t))) fullShare d
      ⊢ iprop((owns (c : Thread nD τ) (slotM (slotAt (ofT3 t))) fullShare (fun y => quantF mn sc inv (d y)) -∗ Ψ ⟨⟩)
        -∗ wp frame (wpE (defs₀ (F := F)) Variants.none (c : Thread nD τ) none) Set.univ
          (Scf.Loop.for k0_t4_loop k0_t4_ok ⟨⟩
            (k0_t4_body a0 ha0 xW (Memref.isWhole_whole _) oW (Memref.isWhole_whole _) bW (Memref.isWhole_whole _)
              cc0_scratch1 cc0_scratch2 mn sc inv c0 c1 t)) Ψ) := by
  iintro H Hk
  iapply (Scf.wp_for frame (wpE (defs₀ (F := F)) Variants.none (c : Thread nD τ) none) Set.univ k0_t4_loop.lb k0_t4_loop.ub k0_t4_loop.st
    k0_t4_ok ⟨⟩ _ (fun n _ => owns (c : Thread nD τ) (slotM (slotAt (ofT3 t))) fullShare (quantBlk mn sc inv d n)) ?_)
  · rintro k acc
    iintro H
    unfold k0_t4_body
    simp only []
    have hk := trips4 k
    rw [wp_bind]
    iapply (wp_loadBlock c (slotAt (ofT3 t)) ⟨k.val, hk⟩ _ _ (off11_eq t k) _) $$ H
    iintro H
    rw [wp_bind]
    iapply (wp_loadBlock c (slotAt (ofT3 t)) ⟨k.val, hk⟩ _ _ (off11_eq t k) _) $$ H
    iintro H
    rw [wp_bind]
    iapply (wp_storeBlock c (slotAt (ofT3 t)) ⟨k.val, hk⟩ _ _ (off11_eq t k) _) $$ H
    iintro H
    rw [wp_pure]
    imodintro
    rw [quantBlk_succ mn sc inv d ⟨k.val, hk⟩]
    iexact H
  · isplitl [H]
    · have e : quantBlk mn sc inv d 0 = d := by funext y; simp [quantBlk]
      rw [e]
      iexact H
    · iintro %acc H
      have e : quantBlk mn sc inv d (Scf.trips k0_t4_loop.lb k0_t4_loop.ub k0_t4_loop.st) = fun y => quantF mn sc inv (d y) := by
        funext y
        have hy : (y 0).val < 4096 := (y 0).isLt
        have ht : Scf.trips k0_t4_loop.lb k0_t4_loop.ub k0_t4_loop.st = 64 := by decide +kernel
        unfold quantBlk
        rw [if_pos (by rw [ht]; omega)]
      rw [e]
      iapply Hk $$ H

end Cert.KernelIdeal.Hand
-- ==== Proof.Trips.lean ====
/-
  One trip of each of the kernel's two phases, as a step of the state machine.
-/
module

public import proofs.«01_k».proof.Proof.Inner

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A trip of the first phase, by its number. -/
theorem ofNat_ofT1 (t : Fin k0_t1_loop.trips) : Fin.ofNat 32 t.val = ofT1 t := rfl
/-- A trip of the second phase, by its number. -/
theorem ofNat_ofT3 (t : Fin k0_t3_loop.trips) : Fin.ofNat 32 t.val = ofT3 t := rfl

/-- One trip of the first phase: the chunk arrives, its blocks are folded into the running minimum and maximum, and at
    trips 25 to 27 another chunk starts into the slot. -/
theorem wp_trip1 (c : Dev nD) (X Q : Fin 32 → Chunk F) (a0 : Memref sig .tc .smem S1 .f32) (ha0 : a0.IsWhole) (v116 v118 : FVec F S64x128 .f32)
    (c0 c1 : BitVec 32) (t : Fin k0_t1_loop.trips) (acc : FVec F S64x128 .f32 × FVec F S64x128 .f32)
    (Ψ : FVec F S64x128 .f32 × FVec F S64x128 .f32 → sProp 𝕄) :
    held c X Q (st1 t.val)
      ⊢ iprop((held c X Q (st1 (t.val + 1)) -∗ Ψ (accBlk (X (ofT1 t)) acc 64))
        -∗ wp frame (wpE (defs₀ (F := F)) Variants.none (c : Thread nD τ) none) Set.univ
          (k0_t1_body a0 ha0 xW (Memref.isWhole_whole _) oW (Memref.isWhole_whole _) bW (Memref.isWhole_whole _)
              cc0_scratch1 cc0_scratch2 v116 v118 c0 c1 t acc) Ψ) := by
  obtain ⟨p, q⟩ := acc
  have hv := ofT1_val t
  have hst : st1 (t.val + 1) = trip1 (st1 t.val) (ofT1 t) := rfl
  have hpre := pre1 (ofT1 t)
  have hfill := pre1_refill (ofT1 t)
  rw [hv] at hpre
  rw [hv] at hfill
  rw [hst]
  unfold k0_t1_body
  simp only [k0_part1_eq_skeleton]
  unfold k0_part1_skel
  simp only []
  iintro H Hk
  rw [wp_bind, wp_bind]
  iapply (step_waitIn c X Q (st1 t.val) (slotOf (ofT1 t)) (ofT1 t) hpre.1 _ _ _
    (slice_slot _ _ _ (off2_eq t)) (cell_in _ _ _ (off1_eq t)) hpre.2 _) $$ H
  iintro H
  rw [wp_pure]
  imodintro
  rw [wp_bind]
  ihave H' := (held_read c X Q (got1 (st1 t.val) (ofT1 t)) (slotOf (ofT1 t)) (ofT1 t) (got1_raw _ _)) $$ H
  icases H' with ⟨Hs, Hb⟩
  iapply (wp_inner1 c a0 ha0 v116 v118 c0 c1 t (X (ofT1 t)) (p, q)) $$ Hs
  iintro Hs
  ihave H := Hb $$ Hs
  unfold trip1
  by_cases hc : 25 ≤ (ofT1 t).val ∧ (ofT1 t).val < 28
  · have hcond := (cond1_iff t).mpr hc
    rw [if_pos hc]
    simp only [dif_pos hcond]
    rw [wp_bind]
    have hv4 : Fin.ofNat 32 ((ofT1 t).val + 4) = Fin.ofNat 32 (t.val + 4) := by rw [hv]
    have hf := hfill (by rw [← hv]; exact hc)
    rw [← hv4] at hf
    ihave H := (held_drop c X Q (got1 (st1 t.val) (ofT1 t)) (slotOf (ofT1 t)) (ofT1 t) (got1_raw _ _)) $$ H
    iapply (step_startIn c X Q ((got1 (st1 t.val) (ofT1 t)).drop (slotOf (ofT1 t))) (slotOf (ofT1 t)) (Fin.ofNat 32 ((ofT1 t).val + 4)) hf.1 hf.2 _ _ _
      (slice_in _ _ _ (off7_eq t hcond)) (slice_slot _ _ _ (off6_eq t hcond)) (cell_in _ _ _ (off5_eq t hcond)) _) $$ H
    iintro H
    rw [wp_pure]
    imodintro
    iapply Hk $$ H
  · have hcond := fun h => hc ((cond1_iff t).mp h)
    rw [if_neg hc]
    simp only [dif_neg hcond]
    rw [wp_pure]
    imodintro
    iapply Hk $$ H

/-- The second phase's inner loop on a slot of the state. -/
theorem wp_quantise (c : Dev nD) (X Q : Fin 32 → Chunk F) (a0 : Memref sig .tc .smem S1 .f32) (ha0 : a0.IsWhole)
    (mn sc inv : F .f32) (hQ : ∀ j, Q j = fun y => quantF mn sc inv (X j y)) (c0 c1 : BitVec 32)
    (t : Fin k0_t3_loop.trips) (st : St) (hraw : st.slot (slotAt (ofT3 t)) = .raw (chunkAt (ofT3 t))) (Ψ : Unit → sProp 𝕄) :
    held c X Q st
      ⊢ iprop((held c X Q (st.quantise (slotAt (ofT3 t)) (chunkAt (ofT3 t))) -∗ Ψ ⟨⟩)
        -∗ wp frame (wpE (defs₀ (F := F)) Variants.none (c : Thread nD τ) none) Set.univ
          (Scf.Loop.for k0_t4_loop k0_t4_ok ⟨⟩
            (k0_t4_body a0 ha0 xW (Memref.isWhole_whole _) oW (Memref.isWhole_whole _) bW (Memref.isWhole_whole _)
              cc0_scratch1 cc0_scratch2 mn sc inv c0 c1 t)) Ψ) := by
  iintro H Hk
  ihave H' := (held_quantise c X Q st (slotAt (ofT3 t)) (chunkAt (ofT3 t)) hraw) $$ H
  icases H' with ⟨Hs, Hb⟩
  iapply (wp_inner2 c a0 ha0 mn sc inv c0 c1 t (X (chunkAt (ofT3 t)))) $$ Hs
  iintro Hs
  rw [← hQ (chunkAt (ofT3 t))]
  iapply Hk
  iapply Hb $$ Hs

/-- A trip of the second phase up to its quantised chunk. -/
theorem wp_part2 (c : Dev nD) (X Q : Fin 32 → Chunk F) (a0 : Memref sig .tc .smem S1 .f32) (ha0 : a0.IsWhole)
    (mn sc inv : F .f32) (hQ : ∀ j, Q j = fun y => quantF mn sc inv (X j y)) (c0 c1 : BitVec 32)
    (t : Fin k0_t3_loop.trips) (Ψ : BitVec 32 → sProp 𝕄) :
    held c X Q (st2 t.val)
      ⊢ iprop((∀ v, held c X Q ((got2 (st2 t.val) (ofT3 t)).quantise (slotAt (ofT3 t)) (chunkAt (ofT3 t))) -∗ Ψ v)
        -∗ wp frame (wpE (defs₀ (F := F)) Variants.none (c : Thread nD τ) none) Set.univ
          (k0_part2 a0 ha0 xW (Memref.isWhole_whole _) oW (Memref.isWhole_whole _) bW (Memref.isWhole_whole _)
              cc0_scratch1 cc0_scratch2 mn sc inv c0 c1 t) Ψ) := by
  have hv := ofT3_val t
  have hraw := pre2_raw (ofT3 t)
  have hgot := pre2 (ofT3 t)
  rw [hv] at hraw hgot
  simp only [k0_part2_eq_skeleton]
  unfold k0_part2_skel
  simp only []
  unfold got2 at hraw ⊢
  iintro H Hk
  by_cases hc : 29 ≤ (ofT3 t).val
  · have hcond := (cond2_iff t).mpr hc
    have hg := hgot (by rw [← hv]; exact hc)
    rw [if_pos hc] at hraw ⊢
    simp only [dif_pos hcond]
    rw [wp_bind]
    iapply (step_waitIn c X Q (st2 t.val) (slotAt (ofT3 t)) (chunkAt (ofT3 t)) hg.1 _ _ _
      (slice_slot _ _ _ (off9_eq t hcond)) (cell_in _ _ _ (off8_eq t hcond)) hg.2 _) $$ H
    iintro H
    rw [wp_bind]
    iapply (wp_quantise c X Q a0 ha0 mn sc inv hQ c0 c1 t _ hraw) $$ H
    iintro H
    rw [wp_pure]
    imodintro
    iapply Hk $$ H
  · have hcond := fun h => hc ((cond2_iff t).mp h)
    rw [if_neg hc] at hraw ⊢
    simp only [dif_neg hcond]
    rw [wp_bind]
    iapply (wp_quantise c X Q a0 ha0 mn sc inv hQ c0 c1 t _ hraw) $$ H
    iintro H
    rw [wp_pure]
    imodintro
    iapply Hk $$ H

/-- One trip of the second phase: the chunk is in its slot (trips 29 to 31 wait for it), is quantised in place and starts
    out; trips 3 to 5 wait for a slot sent before and start a chunk into it again. -/
theorem wp_trip2 (c : Dev nD) (X Q : Fin 32 → Chunk F) (a0 : Memref sig .tc .smem S1 .f32) (ha0 : a0.IsWhole) (v116 v118 : FVec F S64x128 .f32)
    (c0 c1 : BitVec 32) (lo hi : FVec F S64x128 .f32) (dn : Elt F .f32)
    (hQ : ∀ j, Q j = fun y => quantF (k0_pay6 lo) (k0_pay7 lo hi dn) (k0_pay8 lo hi dn) (X j y))
    (t : Fin k0_t3_loop.trips) (u : Unit) (Ψ : Unit → sProp 𝕄) :
    held c X Q (st2 t.val)
      ⊢ iprop((held c X Q (st2 (t.val + 1)) -∗ Ψ ⟨⟩)
        -∗ wp frame (wpE (defs₀ (F := F)) Variants.none (c : Thread nD τ) none) Set.univ
          (k0_t3_body a0 ha0 xW (Memref.isWhole_whole _) oW (Memref.isWhole_whole _) bW (Memref.isWhole_whole _)
              cc0_scratch1 cc0_scratch2 v116 v118 c0 c1 lo hi dn t u) Ψ) := by
  have hv := ofT3_val t
  have hst : st2 (t.val + 1) = trip2 (st2 t.val) (ofT3 t) := rfl
  have hout := pre2_out (ofT3 t)
  have hfree := pre2_free (ofT3 t)
  rw [hv] at hout hfree
  rw [hst]
  unfold k0_t3_body
  simp only []
  iintro H Hk
  rw [wp_bind]
  iapply (wp_part2 c X Q a0 ha0 _ _ _ hQ _ _ t) $$ H
  iintro %v H
  rw [wp_bind]
  iapply (step_startOut c X Q _ (slotAt (ofT3 t)) (chunkAt (ofT3 t)) hout.1 hout.2 _ _ _
      (slice_slot _ _ _ (off14_eq t)) (slice_out _ _ _ (off13_eq t)) (cell_out _ _ _ (off12_eq t)) _) $$ H
  iintro H
  unfold trip2
  by_cases hc : 3 ≤ (ofT3 t).val ∧ (ofT3 t).val < 6
  · have hcond := (cond3_iff t).mpr hc
    have hf := hfree (by rw [← hv]; exact hc)
    rw [if_pos hc]
    simp only [dif_pos hcond]
    rw [wp_bind]
    iapply (step_waitOut c X Q (sent2 (got2 (st2 t.val) (ofT3 t)) (ofT3 t)) (freeAt (ofT3 t)) _ (Fin.ofNat 32 (freeAt (ofT3 t)).val) hf.1 hf.2.1 _ _ _
      (slice_out _ _ _ (off16_eq t hcond)) (cell_out _ _ _ (off15_eq t hcond)) _) $$ H
    iintro H
    rw [wp_bind]
    iapply (step_startIn c X Q _ (freeAt (ofT3 t)) (againAt (ofT3 t)) hf.2.2.1 hf.2.2.2 _ _ _
      (slice_in _ _ _ (off18_eq t hcond)) (slice_slot _ _ _ (off17_eq t hcond)) (cell_in _ _ _ (off15_eq t hcond)) _) $$ H
    iintro H
    rw [wp_pure]
    imodintro
    iapply Hk $$ H
  · have hcond := fun h => hc ((cond3_iff t).mp h)
    rw [if_neg hc]
    simp only [dif_neg hcond]
    rw [wp_pure]
    imodintro
    iapply Hk $$ H

end Cert.KernelIdeal.Hand
-- ==== Proof.Body.lean ====
/-
  The kernel's body, whole: from the first transfer started to the last one waited for.
-/
module

public import proofs.«01_k».proof.Proof.Trips

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The transfers before the first phase -/

/-- A semaphore cell lies in its array of 29. -/
theorem inb_cell (s : Fin 29) : ∀ a, (![s.val] : Fin 1 → ℕ) a + S1.size a ≤ S29.size a := by
  intro a; fin_cases a; simp [S1, S29]; omega

/-- Start `n` of the first 29 transfers in, the first of them transfer `k`, then run `p`. -/
def starts {α : Type} (p : Prog (TpuEff nD τ sig (Elt F) Λ₀ .tc) α) : ℕ → ℕ → Prog (TpuEff nD τ sig (Elt F) Λ₀ .tc) α
  | _, 0 => p
  | k, n + 1 => do
    Prog.lift (.enqueueDma (inM (Fin.ofNat 32 k)) (.here (slotM (slotOf (Fin.ofNat 32 k))))
      (.dma ((cc0_scratch1.slice (Rect.unit (s := S29) ![(slotOf (Fin.ofNat 32 k)).val] S1.size (inb_cell _))).squeeze S_ squeezes_S1_S_).sem)
      (View.wordExact_bits rfl) (View.wordExact_bits rfl) ⟨Or.inl rfl, trivial⟩)
    starts p (k + 1) n

/-- Wait for `n` of the 29 slots' last transfers out, the first of them slot `k`'s, then run `p`. -/
def drains {α : Type} (p : Prog (TpuEff nD τ sig (Elt F) Λ₀ .tc) α) : ℕ → ℕ → Prog (TpuEff nD τ sig (Elt F) Λ₀ .tc) α
  | _, 0 => p
  | k, n + 1 => do
    Prog.lift (.waitDma2 ((cc0_scratch2.slice (Rect.unit (s := S29) ![(Fin.ofNat 29 k).val] S1.size (inb_cell _))).squeeze S_ squeezes_S1_S_).sem
      (slotM (Fin.ofNat 29 k)) (outM (Fin.ofNat 32 k)) (View.wordExact_bits rfl) (View.wordExact_bits rfl))
    drains p (k + 1) n

section parts
variable (a0 : Memref sig .tc .smem S1 .f32) (ha0 : a0.IsWhole)

/-- The body's first six starts in are the starts of transfers 0 to 5. -/
theorem part3_eq : k0_part3 a0 ha0 xW (Memref.isWhole_whole _) oW (Memref.isWhole_whole _) bW (Memref.isWhole_whole _) cc0_scratch1 cc0_scratch2
    = starts (F := F) (pure ⟨⟩) 0 6 := rfl
/-- The next six are transfers 6 to 11, … -/
theorem part4_eq : k0_part4 a0 ha0 xW (Memref.isWhole_whole _) oW (Memref.isWhole_whole _) bW (Memref.isWhole_whole _) cc0_scratch1 cc0_scratch2
    = starts (F := F) (pure ⟨⟩) 6 6 := rfl
/-- … then 12 to 17, … -/
theorem part5_eq : k0_part5 a0 ha0 xW (Memref.isWhole_whole _) oW (Memref.isWhole_whole _) bW (Memref.isWhole_whole _) cc0_scratch1 cc0_scratch2
    = starts (F := F) (pure ⟨⟩) 12 6 := rfl
/-- … then 18 to 23, … -/
theorem part6_eq : k0_part6 a0 ha0 xW (Memref.isWhole_whole _) oW (Memref.isWhole_whole _) bW (Memref.isWhole_whole _) cc0_scratch1 cc0_scratch2
    = starts (F := F) (pure ⟨⟩) 18 6 := rfl
/-- … then 24 to 28, with the loop's first minimum and maximum. -/
theorem part7_eq : k0_part7 a0 ha0 xW (Memref.isWhole_whole _) oW (Memref.isWhole_whole _) bW (Memref.isWhole_whole _) cc0_scratch1 cc0_scratch2
    = starts (F := F) (pure ⟨k0_pay2 (F := F), k0_pay3 (F := F), 0#32, 1#32⟩) 24 5 := rfl
/-- The body's waits after the loops go on with slots 3 to 8, … -/
theorem part9_eq : k0_part9 a0 ha0 xW (Memref.isWhole_whole _) oW (Memref.isWhole_whole _) bW (Memref.isWhole_whole _) cc0_scratch1 cc0_scratch2
    = drains (F := F) (pure ⟨⟩) 3 6 := rfl
/-- … then 9 to 14, … -/
theorem part10_eq : k0_part10 a0 ha0 xW (Memref.isWhole_whole _) oW (Memref.isWhole_whole _) bW (Memref.isWhole_whole _) cc0_scratch1 cc0_scratch2
    = drains (F := F) (pure ⟨⟩) 9 6 := rfl
/-- … then 15 to 20, … -/
theorem part11_eq : k0_part11 a0 ha0 xW (Memref.isWhole_whole _) oW (Memref.isWhole_whole _) bW (Memref.isWhole_whole _) cc0_scratch1 cc0_scratch2
    = drains (F := F) (pure ⟨⟩) 15 6 := rfl
/-- … then 21 to 26. -/
theorem part12_eq : k0_part12 a0 ha0 xW (Memref.isWhole_whole _) oW (Memref.isWhole_whole _) bW (Memref.isWhole_whole _) cc0_scratch1 cc0_scratch2
    = drains (F := F) (pure ⟨⟩) 21 6 := rfl
/-- Between the starts and the waits come the two phases, with the denominator read between them, and the first three waits. -/
theorem part8_eq (v116 v118 : FVec F S64x128 .f32) (c0 c1 : BitVec 32) :
    k0_part8 a0 ha0 xW (Memref.isWhole_whole _) oW (Memref.isWhole_whole _) bW (Memref.isWhole_whole _) cc0_scratch1 cc0_scratch2 v116 v118 c0 c1
    = (do
      let acc ← Scf.Loop.for k0_t1_loop k0_t1_ok (v116, v118)
        (k0_t1_body a0 ha0 xW (Memref.isWhole_whole _) oW (Memref.isWhole_whole _) bW (Memref.isWhole_whole _) cc0_scratch1 cc0_scratch2 v116 v118 c0 c1)
      let dn : Elt F .f32 ← smemLoad a0 (Rect.unit (s := S1) ![0] S1.size inb_S1_S1_0) numel1_S1 rfl
      Scf.Loop.for k0_t3_loop k0_t3_ok ⟨⟩
        (k0_t3_body a0 ha0 xW (Memref.isWhole_whole _) oW (Memref.isWhole_whole _) bW (Memref.isWhole_whole _) cc0_scratch1 cc0_scratch2 v116 v118 c0 c1 acc.1 acc.2 dn)
      drains (F := F) (pure ⟨⟩) 0 3) := rfl

/-- The whole body: the 29 starts, the two phases, the 29 waits. -/
theorem body_eq :
    cc0__body a0 ha0 xW (Memref.isWhole_whole _) oW (Memref.isWhole_whole _) bW (Memref.isWhole_whole _) cc0_scratch1 cc0_scratch2
    = (do
      starts (F := F) (pure PUnit.unit) 0 6
      starts (F := F) (pure PUnit.unit) 6 6
      starts (F := F) (pure PUnit.unit) 12 6
      starts (F := F) (pure PUnit.unit) 18 6
      let r ← starts (F := F) (pure (⟨k0_pay2 (F := F), k0_pay3 (F := F), 0#32, 1#32⟩ :
        Σ' (_ : FVec F S64x128 .f32) (_ : FVec F S64x128 .f32) (_ : BitVec 32), BitVec 32)) 24 5
      k0_part8 a0 ha0 xW (Memref.isWhole_whole _) oW (Memref.isWhole_whole _) bW (Memref.isWhole_whole _) cc0_scratch1 cc0_scratch2 r.1 r.2.1 r.2.2.1 r.2.2.2
      drains (F := F) (pure PUnit.unit) 3 6
      drains (F := F) (pure PUnit.unit) 9 6
      drains (F := F) (pure PUnit.unit) 15 6
      drains (F := F) (pure PUnit.unit) 21 6
      drains (F := F) (pure PUnit.unit) 27 2) := by
  rw [cc0__body_eq_skeleton]
  unfold cc0__body_skel
  rw [part3_eq, part4_eq, part5_eq, part6_eq, part7_eq, part9_eq, part10_eq, part11_eq, part12_eq]
  rfl

end parts

/-- `n` starts in, from transfer `k` on, take the state before transfer `k` to the state before transfer `k + n`. -/
theorem wp_starts (c : Dev nD) (X Q : Fin 32 → Chunk F) {α : Type} (r : α) (n : ℕ) : ∀ (k : ℕ) (_ : k + n ≤ 29) (Ψ : α → sProp 𝕄),
    held c X Q (st0 k)
      ⊢ iprop((held c X Q (st0 (k + n)) -∗ Ψ r)
        -∗ wp frame (wpE (defs₀ (F := F)) Variants.none (c : Thread nD τ) none) Set.univ (starts (pure r) k n) Ψ) := by
  induction n with
  | zero =>
    intro k _ Ψ
    unfold starts
    iintro H Hk
    rw [wp_pure]
    imodintro
    iapply Hk $$ H
  | succ n ih =>
    intro k hk Ψ
    unfold starts
    have hp := pre0 ⟨k, by omega⟩
    have e : k + (n + 1) = k + 1 + n := by omega
    rw [e]
    iintro H Hk
    rw [wp_bind]
    iapply (step_startIn c X Q (st0 k) (slotOf (Fin.ofNat 32 k)) (Fin.ofNat 32 k) hp.1 hp.2 _ _ _ rfl rfl (cell_in _ _ _ rfl) _) $$ H
    rw [← show st0 (k + 1) = (st0 k).startIn (slotOf (Fin.ofNat 32 k)) (Fin.ofNat 32 k) from rfl]
    iintro H
    iapply (ih (k + 1) (by omega) Ψ) $$ H
    iexact Hk

/-- `n` waits, from slot `k` on, take the state before slot `k` is awaited to the state before slot `k + n` is. -/
theorem wp_drains (c : Dev nD) (X Q : Fin 32 → Chunk F) {α : Type} (r : α) (n : ℕ) : ∀ (k : ℕ) (_ : k + n ≤ 29) (Ψ : α → sProp 𝕄),
    held c X Q (st3 k)
      ⊢ iprop((held c X Q (st3 (k + n)) -∗ Ψ r)
        -∗ wp frame (wpE (defs₀ (F := F)) Variants.none (c : Thread nD τ) none) Set.univ (drains (pure r) k n) Ψ) := by
  induction n with
  | zero =>
    intro k _ Ψ
    unfold drains
    iintro H Hk
    rw [wp_pure]
    imodintro
    iapply Hk $$ H
  | succ n ih =>
    intro k hk Ψ
    unfold drains
    have hf : Fin.ofNat 29 k = ⟨k, by omega⟩ := Fin.ext (Nat.mod_eq_of_lt (by omega))
    have hp : (st3 k).slot (Fin.ofNat 29 k) = .out (lastOf (Fin.ofNat 29 k)) ∧ (st3 k).dst (lastOf (Fin.ofNat 29 k)) = .lent := by
      rw [hf]; exact pre3 ⟨k, by omega⟩
    have e : k + (n + 1) = k + 1 + n := by omega
    rw [e]
    iintro H Hk
    rw [wp_bind]
    iapply (step_waitOut c X Q (st3 k) (Fin.ofNat 29 k) (lastOf (Fin.ofNat 29 k)) (Fin.ofNat 32 k) hp.1 hp.2 _ _ _ rfl (cell_out _ _ _ rfl) _) $$ H
    rw [← show st3 (k + 1) = (st3 k).waitOut (Fin.ofNat 29 k) (lastOf (Fin.ofNat 29 k)) from rfl]
    iintro H
    iapply (ih (k + 1) (by omega) Ψ) $$ H
    iexact Hk

/-- The one element of the denominator's block. -/
def one0 : S1.Idx := Shape.Idx.first (by decide)

/-- An array of one element has one index. -/
theorem eq_one0 (x : S1.Idx) : x = one0 := by
  funext i
  apply Fin.ext
  have h : S1.size i = 1 := by fin_cases i; rfl
  have h₁ := (x i).isLt
  have h₂ := (one0 i).isLt
  omega

/-- Reading the denominator gives its one element and leaves it in place. -/
theorem wp_denom (c : Dev nD) (a0 : Memref sig .tc .smem S1 .f32) (dn : Vec F S1 .f32) (Ψ : Elt F .f32 → sProp 𝕄) :
    owns (c : Thread nD τ) a0 fullShare dn
      ⊢ iprop((owns (c : Thread nD τ) a0 fullShare dn -∗ Ψ (dn one0))
        -∗ wp frame (wpE (defs₀ (F := F)) Variants.none (c : Thread nD τ) none) Set.univ
          (smemLoad a0 (Rect.unit (s := S1) ![0] S1.size inb_S1_S1_0) numel1_S1 rfl) Ψ) := by
  unfold owns smemLoad smemLoadElt
  iintro ⟨%f, %hf, H⟩ Hk
  iapply (wp_load_rect Variants.none (c : Thread nD τ) none Set.univ (m := a0) (r := Rect.unit (s := S1) ![0] S1.size inb_S1_S1_0)
    (S := a0.view.set) (f := f) (View.set_slice_subset _ _)) $$ H
  iintro H
  rw [wp_ret]
  imodintro
  have e : ((a0.access (Rect.unit (s := S1) ![0] S1.size inb_S1_S1_0)).read (Elt F) f) (Shape.Idx.first (numel1_S1.symm ▸ Nat.one_pos)) = dn one0 := by
    rw [← hf, ← eq_one0 ((Rect.unit (s := S1) ![0] S1.size inb_S1_S1_0).emb (Shape.Idx.first (numel1_S1.symm ▸ Nat.one_pos)))]
    rfl
  rw [e]
  iapply Hk
  iexists f
  isplitr
  · ipureintro; exact hf
  · iexact H

/-! ## The whole body -/

/-- The minimum and maximum carried through the first `n` chunks. -/
def accAll (X : Fin 32 → Chunk F) : ℕ → FVec F S64x128 .f32 × FVec F S64x128 .f32
  | 0 => (k0_pay2, k0_pay3)
  | n + 1 => accBlk (X (Fin.ofNat 32 n)) (accAll X n) 64

/-- The chunks the kernel writes: the input's, quantised by its minimum and maximum. -/
def quantAll (X : Fin 32 → Chunk F) (dn : Elt F .f32) (j : Fin 32) : Chunk F := fun y =>
  quantF (k0_pay6 (accAll X 32).1) (k0_pay7 (accAll X 32).1 (accAll X 32).2 dn) (k0_pay8 (accAll X 32).1 (accAll X 32).2 dn) (X j y)

section
variable (c : Dev nD) (X Q : Fin 32 → Chunk F) (a0 : Memref sig .tc .smem S1 .f32) (ha0 : a0.IsWhole) (c0 c1 : BitVec 32)

/-- The first phase. -/
theorem wp_phase1 (Ψ : FVec F S64x128 .f32 × FVec F S64x128 .f32 → sProp 𝕄) :
    held c X Q (st1 0)
      ⊢ iprop((held c X Q (st1 32) -∗ Ψ (accAll X 32))
        -∗ wp frame (wpE (defs₀ (F := F)) Variants.none (c : Thread nD τ) none) Set.univ
          (Scf.Loop.for k0_t1_loop k0_t1_ok (k0_pay2, k0_pay3)
            (k0_t1_body a0 ha0 xW (Memref.isWhole_whole _) oW (Memref.isWhole_whole _) bW (Memref.isWhole_whole _)
              cc0_scratch1 cc0_scratch2 k0_pay2 k0_pay3 c0 c1)) Ψ) := by
  iintro H Hk
  iapply (Scf.wp_for frame (wpE (defs₀ (F := F)) Variants.none (c : Thread nD τ) none) Set.univ k0_t1_loop.lb k0_t1_loop.ub k0_t1_loop.st
    k0_t1_ok (k0_pay2, k0_pay3) _ (fun n acc => iprop(⌜acc = accAll X n⌝ ∗ held c X Q (st1 n))) ?_)
  · rintro t acc
    iintro ⟨%hacc, H⟩
    iapply (wp_trip1 c X Q a0 ha0 _ _ c0 c1 t acc) $$ H
    iintro H
    isplitr
    · ipureintro
      rw [accAll, ← hacc]
      rfl
    · iexact H
  · isplitl [H]
    · isplitr
      · ipureintro; rfl
      · iexact H
    · have ht : Scf.trips k0_t1_loop.lb k0_t1_loop.ub k0_t1_loop.st = 32 := by decide +kernel
      rw [ht]
      iintro %acc ⟨%hacc, H⟩
      subst hacc
      iapply Hk $$ H

/-- The second phase. -/
theorem wp_phase2 (dn : Elt F .f32) (Ψ : Unit → sProp 𝕄) :
    held c X (quantAll X dn) (st2 0)
      ⊢ iprop((held c X (quantAll X dn) (st2 32) -∗ Ψ ⟨⟩)
        -∗ wp frame (wpE (defs₀ (F := F)) Variants.none (c : Thread nD τ) none) Set.univ
          (Scf.Loop.for k0_t3_loop k0_t3_ok ⟨⟩
            (k0_t3_body a0 ha0 xW (Memref.isWhole_whole _) oW (Memref.isWhole_whole _) bW (Memref.isWhole_whole _)
              cc0_scratch1 cc0_scratch2 k0_pay2 k0_pay3 c0 c1 (accAll X 32).1 (accAll X 32).2 dn)) Ψ) := by
  iintro H Hk
  iapply (Scf.wp_for frame (wpE (defs₀ (F := F)) Variants.none (c : Thread nD τ) none) Set.univ k0_t3_loop.lb k0_t3_loop.ub k0_t3_loop.st
    k0_t3_ok PUnit.unit _ (fun n _ => held c X (quantAll X dn) (st2 n)) ?_)
  · rintro t u
    iintro H
    iapply (wp_trip2 c X (quantAll X dn) a0 ha0 _ _ c0 c1 _ _ dn (fun _ => rfl) t u) $$ H
    iintro H
    iexact H
  · isplitl [H]
    · iexact H
    · have ht : Scf.trips k0_t3_loop.lb k0_t3_loop.ub k0_t3_loop.st = 32 := by decide +kernel
      rw [ht]
      iintro %u H
      iapply Hk $$ H

/-- The kernel's body: from every slot idle, every input chunk held and every output chunk as it was, to every output
    chunk written with the quantised input chunk. -/
theorem wp_body (dn : Vec F S1 .f32) (Ψ : PUnit → sProp 𝕄) :
    iprop(owns (c : Thread nD τ) a0 fullShare dn ∗ held c X (quantAll X (dn one0)) (st0 0))
      ⊢ iprop((owns (c : Thread nD τ) a0 fullShare dn ∗ held c X (quantAll X (dn one0)) (st3 29) -∗ Ψ ⟨⟩)
        -∗ wp frame (wpE (defs₀ (F := F)) Variants.none (c : Thread nD τ) none) Set.univ
          (cc0__body a0 ha0 xW (Memref.isWhole_whole _) oW (Memref.isWhole_whole _) bW (Memref.isWhole_whole _) cc0_scratch1 cc0_scratch2) Ψ) := by
  rw [body_eq]
  iintro ⟨Hd, H⟩ Hk
  rw [wp_bind]
  iapply (wp_starts c X _ _ 6 0 (by omega)) $$ H
  iintro H
  rw [wp_bind]
  iapply (wp_starts c X _ _ 6 6 (by omega)) $$ H
  iintro H
  rw [wp_bind]
  iapply (wp_starts c X _ _ 6 12 (by omega)) $$ H
  iintro H
  rw [wp_bind]
  iapply (wp_starts c X _ _ 6 18 (by omega)) $$ H
  iintro H
  rw [wp_bind]
  iapply (wp_starts c X _ _ 5 24 (by omega)) $$ H
  iintro H
  rw [part8_eq, wp_bind, wp_bind]
  rw [show st0 (24 + 5) = st1 0 from rfl]
  iapply (wp_phase1 c X _ a0 ha0 _ _) $$ H
  rw [show st1 32 = st2 0 from rfl]
  iintro H
  rw [wp_bind]
  iapply (wp_denom c a0 dn) $$ Hd
  iintro Hd
  rw [wp_bind]
  iapply (wp_phase2 c X a0 ha0 _ _ (dn one0)) $$ H
  rw [show st2 32 = st3 0 from rfl]
  iintro H
  iapply (wp_drains c X _ _ 3 0 (by omega)) $$ H
  iintro H
  rw [wp_bind]
  iapply (wp_drains c X _ _ 6 3 (by omega)) $$ H
  iintro H
  rw [wp_bind]
  iapply (wp_drains c X _ _ 6 9 (by omega)) $$ H
  iintro H
  rw [wp_bind]
  iapply (wp_drains c X _ _ 6 15 (by omega)) $$ H
  iintro H
  rw [wp_bind]
  iapply (wp_drains c X _ _ 6 21 (by omega)) $$ H
  iintro H
  iapply (wp_drains c X _ _ 2 27 (by omega)) $$ H
  iintro H
  iapply Hk
  isplitl [Hd]
  · iexact Hd
  · iexact H

end

end Cert.KernelIdeal.Hand
-- ==== Proof.Region.lean ====
/-
  The region's memory, whole and in pieces: what the kernel holds on entry is the first state of the schedule, and the
  last state of the schedule is what it gives back.
-/
module

public import proofs.«01_k».proof.Proof.Body

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What is held at known contents is held at some. -/
theorem owns_some (c : Dev nD) {sp : Space} {sh : Shape} {e : EltTy} (m : Memref sig .tc sp sh e) (X : sh.Idx → Elt F e) :
    (owns (c : Thread nD τ) m fullShare X : sProp 𝕄) ⊢ iprop(∃ d, owns (c : Thread nD τ) m fullShare d) := by
  iintro H
  iexists X
  iexact H

/-- A slot held at some contents, as its rows of the scratch buffer. -/
theorem slot_rows (c : Dev nD) (s : Fin 29) :
    (iprop(∃ d, owns (c : Thread nD τ) (slotM s) fullShare d) : sProp 𝕄)
      ⊢ iprop(∃ f : Buf (Elt F) ((c : Thread nD τ).loc cc0_scratch0), (c : Thread nD τ).loc cc0_scratch0 ↦[(slotR s).set]{fullShare} f) := by
  iintro ⟨%d, H⟩
  ihave H' := (slot_open c s d) $$ H
  icases H' with ⟨%f, -, H⟩
  iexists f
  iexact H

/-! ## An array of chunks -/

/-- The shape of `n` chunks. -/
abbrev chunksS (n : ℕ) : Shape := ⟨2, ![4096 * n, 128]⟩

/-- Chunk `k` of an array of `n`. -/
def chunkR (n : ℕ) (k : Fin n) : Rect (chunksS n) :=
  Rect.unit (s := chunksS n) ![4096 * k.val, 0] S4096x128.size (by intro a; fin_cases a <;> simp [S4096x128] <;> omega)

/-- Two different chunks share no element. -/
theorem chunkR_disjoint (n : ℕ) (k k' : Fin n) (h : k ≠ k') : Disjoint (chunkR n k).set (chunkR n k').set := by
  apply Rect.unit_disjoint (0 : Fin 2)
  have : k.val ≠ k'.val := fun e => h (Fin.ext e)
  show 4096 * k.val + 4096 ≤ 4096 * k'.val ∨ 4096 * k'.val + 4096 ≤ 4096 * k.val
  omega

/-- The chunks cover the array. -/
theorem chunkR_cover (n : ℕ) : (Finset.univ : Finset (Fin n)).biUnion (fun k => (chunkR n k).set) = Finset.univ := by
  ext i
  simp only [Finset.mem_biUnion, Finset.mem_univ, true_and, iff_true]
  have h₀ : (i (0 : Fin 2)).val < 4096 * n := (i (0 : Fin 2)).isLt
  have h₁ : (i (1 : Fin 2)).val < 128 := (i (1 : Fin 2)).isLt
  refine ⟨⟨(i (0 : Fin 2)).val / 4096, by omega⟩, Rect.mem_set_unit.mpr fun a => ?_⟩
  fin_cases a
  · show 4096 * ((i (0 : Fin 2)).val / 4096) ≤ (i (0 : Fin 2)).val ∧ (i (0 : Fin 2)).val < 4096 * ((i (0 : Fin 2)).val / 4096) + 4096
    omega
  · show 0 ≤ (i (1 : Fin 2)).val ∧ (i (1 : Fin 2)).val < 0 + 128
    omega

/-- The chunks of an array's contents. -/
def chunksOf (x : main_v0.ty.Contents (Elt F)) (j : Fin 32) : Chunk F := fun y => x ((chunkR 32 j).emb y)

variable (c : Dev nD)

/-- The input is its 32 chunks. -/
theorem split_in (x : main_v0.ty.Contents (Elt F)) :
    ((c : Thread nD τ).loc main_v0 ↦{fullShare} x : sProp 𝕄)
      ⊢ bigSep Finset.univ fun j => owns (c : Thread nD τ) (inM j) fullShare (chunksOf x j) := by
  rw [← owns_whole]
  exact owns_rects (c : Thread nD τ) (Memref.whole main_v0) fullShare (chunkR 32) (fun _ _ => rfl) (chunkR_disjoint 32) (chunkR_cover 32) x

/-- The 32 chunks are the input. -/
theorem join_in (x : main_v0.ty.Contents (Elt F)) :
    (bigSep Finset.univ fun j => owns (c : Thread nD τ) (inM j) fullShare (chunksOf x j) : sProp 𝕄)
      ⊢ ((c : Thread nD τ).loc main_v0 ↦{fullShare} x) := by
  rw [← owns_whole]
  exact owns_of_rects (c : Thread nD τ) (Memref.whole main_v0) fullShare (chunkR 32) (fun _ _ => rfl) (chunkR_disjoint 32) (chunkR_cover 32) x

/-- The output is its 32 chunks. -/
theorem split_out (x : main_v38.ty.Contents (Elt F)) :
    ((c : Thread nD τ).loc main_v38 ↦{fullShare} x : sProp 𝕄)
      ⊢ bigSep Finset.univ fun j => owns (c : Thread nD τ) (outM j) fullShare (chunksOf x j) := by
  rw [← owns_whole]
  exact owns_rects (c : Thread nD τ) (Memref.whole main_v38) fullShare (chunkR 32) (fun _ _ => rfl) (chunkR_disjoint 32) (chunkR_cover 32) x

/-- The 32 chunks are the output. -/
theorem join_out (x : main_v38.ty.Contents (Elt F)) :
    (bigSep Finset.univ fun j => owns (c : Thread nD τ) (outM j) fullShare (chunksOf x j) : sProp 𝕄)
      ⊢ ((c : Thread nD τ).loc main_v38 ↦{fullShare} x) := by
  rw [← owns_whole]
  exact owns_of_rects (c : Thread nD τ) (Memref.whole main_v38) fullShare (chunkR 32) (fun _ _ => rfl) (chunkR_disjoint 32) (chunkR_cover 32) x

/-- The scratch buffer is its 29 slots, whatever they hold. -/
theorem split_scratch (x : cc0_scratch0.ty.Contents (Elt F)) :
    ((c : Thread nD τ).loc cc0_scratch0 ↦{fullShare} x : sProp 𝕄)
      ⊢ bigSep Finset.univ fun s => iprop(∃ d, owns (c : Thread nD τ) (slotM s) fullShare d) := by
  rw [← owns_whole]
  exact (owns_rects (c : Thread nD τ) (Memref.whole cc0_scratch0) fullShare (chunkR 29) (fun _ _ => rfl) (chunkR_disjoint 29) (chunkR_cover 29) x).trans
    (bigSep_mono fun s _ => owns_some c (slotM s) _)

/-- The 29 slots, whatever they hold, are the scratch buffer. -/
theorem join_scratch :
    (bigSep Finset.univ fun s => iprop(∃ d, owns (c : Thread nD τ) (slotM s) fullShare d) : sProp 𝕄)
      ⊢ iprop(∃ f : Buf (Elt F) ((c : Thread nD τ).loc cc0_scratch0), (c : Thread nD τ).loc cc0_scratch0 ↦{fullShare} f) := by
  have h₁ : (bigSep Finset.univ fun s => iprop(∃ d, owns (c : Thread nD τ) (slotM s) fullShare d) : sProp 𝕄)
      ⊢ bigSep Finset.univ fun s : Fin 29 => iprop(∃ f : Buf (Elt F) ((c : Thread nD τ).loc cc0_scratch0),
          (c : Thread nD τ).loc cc0_scratch0 ↦[(chunkR 29 s).set]{fullShare} f) :=
    bigSep_mono fun s _ => slot_rows c s
  refine h₁.trans ((BI.bigSep_exists_pi Finset.univ fun (s : Fin 29) (f : Buf (Elt F) ((c : Thread nD τ).loc cc0_scratch0)) =>
    ((c : Thread nD τ).loc cc0_scratch0 ↦[(chunkR 29 s).set]{fullShare} f)).trans ?_)
  iintro ⟨%fs, H⟩
  ihave H' := (pointsTo_biUnion_join Finset.univ (fun s => (chunkR 29 s).set) fs (fs 0) (fun s _ s' _ h => chunkR_disjoint 29 s s' h)) $$ H
  icases H' with ⟨%g, -, H⟩
  iexists g
  rw [chunkR_cover 29]
  iexact H

/-! ## Entry and exit -/

/-- The kernel's 58 cells: the 29 its transfers in signal and the 29 its transfers out signal. -/
def osem : Fin 29 ⊕ Fin 29 → SemLoc sig := Sum.elim (fun s => .dma (inC s)) (fun s => .dma (outC s))

/-- The kernel's own semaphores are laid out as the launch needs: each once, none of them the pipeline's. -/
theorem ownSemFacts : Pipeline.OwnSemFacts spec0 osem := by decide +kernel

/-- The memory the region gives the kernel, with the output's contents `y`. -/
def regionMem (x : main_v0.ty.Contents (Elt F)) (y : main_v38.ty.Contents (Elt F)) : sProp 𝕄 :=
  iprop((∃ f : Buf (Elt F) ((c : Thread nD τ).loc cc0_scratch0), (c : Thread nD τ).loc cc0_scratch0 ↦{fullShare} f)
    ∗ Pipeline.ownSems0 (Ix := Unit) (Name := ℕ) (U := Pipeline.UD sig nD τ) (Lvl := ℕ) (Val := Elt F) (τ := τ) osem c
    ∗ ((c : Thread nD τ).loc main_v0 ↦{fullShare} x)
    ∗ ((c : Thread nD τ).loc main_v38 ↦{fullShare} y))

/-- The kernel's own semaphores at zero are the 29 of the copies in and the 29 of the copies out. -/
theorem ownSems_eq :
    (Pipeline.ownSems0 (Ix := Unit) (Name := ℕ) (U := Pipeline.UD sig nD τ) (Lvl := ℕ) (Val := Elt F) (τ := τ) osem c : sProp 𝕄)
      = iprop(bigSep Finset.univ (fun s => semVal ((c : Thread nD τ), .dma (inC s)) 0)
          ∗ bigSep Finset.univ (fun s => semVal ((c : Thread nD τ), .dma (outC s)) 0)) := by
  unfold Pipeline.ownSems0
  exact BI.bigSep_univ_sum _

/-- The slots, all idle, are their memory and their two semaphores at zero. -/
theorem idle_eq (X Q : Fin 32 → Chunk F) :
    (bigSep Finset.univ (fun s => slotHeld c X Q s .idle) : sProp 𝕄)
      = iprop(bigSep Finset.univ (fun s => iprop(∃ d, owns (c : Thread nD τ) (slotM s) fullShare d))
          ∗ bigSep Finset.univ (fun s => semVal ((c : Thread nD τ), .dma (inC s)) 0)
          ∗ bigSep Finset.univ (fun s => semVal ((c : Thread nD τ), .dma (outC s)) 0)) := by
  simp only [slotHeld]
  rw [bigSep_sep', bigSep_sep']

/-- On entry the kernel is in the schedule's first state. -/
theorem enter (x : main_v0.ty.Contents (Elt F)) (y : main_v38.ty.Contents (Elt F)) (Q : Fin 32 → Chunk F) :
    iprop(regionMem c x y ∗ ∃ W, owes (c : Thread nD τ) 0 W) ⊢ (held c (chunksOf x) Q (st0 0) : sProp 𝕄) := by
  unfold regionMem held
  rw [ownSems_eq]
  simp only [st0, srcHeld, dstHeld]
  rw [idle_eq]
  iintro ⟨⟨⟨%f, Hb⟩, ⟨Hi, Ho⟩, Hx, Hy⟩, HW⟩
  isplitl [Hb Hi Ho]
  · isplitl [Hb]
    · iapply (split_scratch c f) $$ Hb
    isplitl [Hi]
    · iexact Hi
    · iexact Ho
  isplitl [Hx]
  · iapply (split_in c x) $$ Hx
  isplitl [Hy]
  · ihave H := (split_out c y) $$ Hy
    iapply (show (bigSep Finset.univ fun j => owns (c : Thread nD τ) (outM j) fullShare (chunksOf y j) : sProp 𝕄)
      ⊢ bigSep Finset.univ fun j => iprop(∃ d, owns (c : Thread nD τ) (outM j) fullShare d) from
      bigSep_mono fun j _ => owns_some c (outM j) _) $$ H
  iexact HW

/-- The schedule's last state is the region's memory with every chunk of the output written. -/
theorem leave (x : main_v0.ty.Contents (Elt F)) (y : main_v38.ty.Contents (Elt F)) :
    (held c (chunksOf x) (chunksOf y) (st3 29) : sProp 𝕄) ⊢ iprop(regionMem c x y ∗ ∃ W, owes (c : Thread nD τ) 0 W) := by
  rw [st3_end]
  unfold regionMem held
  rw [ownSems_eq]
  simp only [srcHeld, dstHeld]
  rw [idle_eq]
  iintro ⟨⟨Hb, Hi, Ho⟩, Hx, Hy, HW⟩
  isplitr [HW]
  · isplitl [Hb]
    · iapply (join_scratch c) $$ Hb
    isplitl [Hi Ho]
    · isplitl [Hi]
      · iexact Hi
      · iexact Ho
    isplitl [Hx]
    · iapply (join_in c x) $$ Hx
    · iapply (join_out c y) $$ Hy
  · iexact HW

end Cert.KernelIdeal.Hand
-- ==== Proof.Run.lean ====
/-
  The program's run: what the region writes, the kernel's body as the region's, and the program's final memory.
-/
module

public import proofs.«01_k».proof.Proof.Region

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The denominator the region is given: the number of steps, as a one-element array. -/
def denom (c : Dev nD) : Elt F .f32 := (V m c main_v37 : main_v37.ty.Contents (Elt F)) one0

/-- The minimum and the maximum of the input, in the kernel's order. -/
def extrema (x : main_v0.ty.Contents (Elt F)) : FVec F S64x128 .f32 × FVec F S64x128 .f32 := accAll (chunksOf x) 32

/-- What the kernel writes: every element of the input, quantised. -/
def written (x : main_v0.ty.Contents (Elt F)) (dn : Elt F .f32) : main_v38.ty.Contents (Elt F) := fun i =>
  quantF (k0_pay6 (extrema x).1) (k0_pay7 (extrema x).1 (extrema x).2 dn) (k0_pay8 (extrema x).1 (extrema x).2 dn) (x i)

/-- The chunks of what the kernel writes are the input's chunks, quantised. -/
theorem chunks_written (x : main_v0.ty.Contents (Elt F)) (dn : Elt F .f32) :
    chunksOf (written x dn) = quantAll (chunksOf x) dn := rfl

/-- The buffers at the region's end: the output's is written, the others are as before. -/
def G (c : Dev nD) : (b : Ref sig .tc) → Buf (Elt F) ((c : Thread nD τ).loc b) :=
  Function.update (V m c) main_v38 (written (V m c main_v0) (denom m c))

/-- The buffer the kernel reads by its own copies. -/
def H0 : Finset (Ref sig .tc) := {main_v0}
/-- The buffer it writes by them. -/
def R0 : Finset (Ref sig .tc) := {main_v38}
/-- The buffer read is none of the pipeline's. -/
theorem H0_sub : H0 ⊆ Pipeline.restRefs sig spec0 := by decide +kernel
/-- Nor is the buffer written, which is another. -/
theorem R0_sub : R0 ⊆ Pipeline.restRefs sig spec0 \ H0 := by decide +kernel

/-- The region's resources, buffer by buffer. -/
theorem phi_eq (c : Dev nD) (G' : (c : Dev nD) → (b : Ref sig .tc) → Buf (Elt F) ((c : Thread nD τ).loc b)) :
    (Pipeline.ΦDRV osem spec0 H0 R0 (V m) G' c : sProp 𝕄) = regionMem c (V m c main_v0) (G' c main_v38) := by
  unfold Pipeline.ΦDRV regionMem H0 R0
  rw [Gen.scopedRest0_eq, BI.bigSep_singleton, BI.bigSep_singleton]

/-- The pipeline's proof data: the denominator's block stays; the output goes from its old contents to the written. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := if t.val = 0 then regionMem c (V m c main_v0) (V m c main_v38) else regionMem c (V m c main_v0) (G m c main_v38)
  q _ := fullShare
  owed _ := 0

/-- Each window's array is what the host left in it. -/
theorem A_eq (c : Dev nD) (w : Fin cfg0.W) : (dats m 0 c).A w = V m c (Pipeline.arrRef spec0 w) := by
  dsimp only [dats]

/-- The body leaves the denominator's block as it found it. -/
theorem after_eq (c : Dev nD) (t : Fin cfg0.N) : (dats m 0 c).after 0 t = iblk m c 0 t := by dsimp only [dats]

/-- The body finds the denominator's block as the host left it. -/
theorem before_eq (c : Dev nD) (t : Fin cfg0.N) (d) : (dats m 0 c).before 0 t d = iblk m c 0 t :=
  ((dats m 0 c).before_in_eq_fetched 0 rfl (fun _ => rfl) (fun _ _ _ => rfl)
    (fun t => by rw [after_eq]; unfold Dat.blockOf iblk; rw [A_eq]) t d).trans
    (by unfold Dat.fetched Dat.blockOf iblk; rw [A_eq]; rfl)

/-- The grid has one point. -/
theorem val0 (t : Fin cfg0.N) : t.val = 0 := by
  have h := t.isLt
  have : cfg0.N = 1 := by decide +kernel
  omega

/-- Before the one point the output holds what the host left in it. -/
theorem phi_before (c : Dev nD) (t : Fin cfg0.N) : (dats m 0 c).Φ t.castSucc = regionMem c (V m c main_v0) (V m c main_v38) :=
  if_pos (val0 t)

/-- After it the output is written. -/
theorem phi_after (c : Dev nD) (t : Fin cfg0.N) : (dats m 0 c).Φ t.succ = regionMem c (V m c main_v0) (G m c main_v38) := by
  dsimp only [dats]
  exact if_neg (Nat.succ_ne_zero t.val)

/-- The block of the denominator the region stages is the denominator's array. -/
theorem denom_block (c : Dev nD) (t : Fin cfg0.N) : (iblk m c 0 t : Vec F S1 .f32) one0 = denom m c := by
  exact congrArg (V m c main_v37 : S1.Idx → Elt F .f32) (eq_one0 _)

/-- The output at the region's end. -/
theorem G_out (c : Dev nD) : G m c main_v38 = written (V m c main_v0) (denom m c) := Function.update_self ..

/-- The kernel's body, at the grid's one point, takes the memory before it to the memory after it. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (win0_0.stage (cfg0.slots t 0)) fullShare ((dats m 0 c).after 0 t))) := by
  rw [phi_before, phi_after, G_out]
  unfold Dat.owesAt Pipeline.owesWithin bodyAt0
  rw [show (dats m 0 c).owed t.castSucc = 0 from rfl, show (dats m 0 c).owed t.succ = 0 from rfl]
  iintro ⟨HR, ⟨%W, -, HW⟩, ⟨%d, Hd⟩⟩
  rw [before_eq]
  ihave H := (enter c (V m c main_v0) (V m c main_v38) (quantAll (chunksOf (V m c main_v0)) (denom m c))) $$ [HR HW]
  · isplitl [HR]
    · iexact HR
    · iexists W
      iexact HW
  rw [← denom_block m c t]
  iapply (wp_body c (chunksOf (V m c main_v0)) (win0_0.stage (cfg0.slots t 0)) (hstage0_0 0) (iblk m c 0 t)) $$ [Hd H]
  · isplitl [Hd]
    · iexact Hd
    · iexact H
  iintro ⟨Hd, H⟩
  have hl := leave c (V m c main_v0) (written (V m c main_v0) ((iblk m c 0 t : Vec F S1 .f32) one0))
  rw [chunks_written] at hl
  ihave H' := hl $$ H
  icases H' with ⟨HR, %W', HW⟩
  isplitl [HR]
  · iexact HR
  isplitl [HW]
  · iexists W'
    isplitr
    · ipureintro; exact fun _ _ => Or.inl trivial
    · iexact HW
  iexact Hd

/-- The region's body is the kernel's. -/
theorem defs₀_row (t : Fin cfg0.N) :
    defs₀ (F := F) .tc cfg0.body (cfg0.bodyArgs t (cfg0.slots t)) = bodyAt0 t := by
  unfold defs₀; rw [Defs.onTc_tc]

/-- The body meets what the region asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The program is the host's lines before the region, the region, and the host's line after it. -/
theorem hmain_dma : Pipeline.HMainK (Ix := Unit) (Name := ℕ) (U := Pipeline.UD sig nD τ) (Lvl := ℕ) cfgs 0 (defs₀ (F := F)) Variants.none m
    (main (F := F)) (V m) (fun _ => Pipeline.chain ([hostOps1].map StableHlo.seq)) :=
  Pipeline.hmain_around cfgs 0 defs₀ Variants.none m main
    [hostOps0, hostOps0_1, hostOps0_2, hostOps0_3, hostOps0_4, hostOps0_5, hostOps0_6, hostOps0_7, hostOps0_8, hostOps0_9, hostOps0_10,
      hostOps0_11, hostOps0_12, hostOps0_13, hostOps0_14] [hostOps1]
    (by simp only [List.Forall]
        exact ⟨hostOps0_sub, hostOps0_1_sub, hostOps0_2_sub, hostOps0_3_sub, hostOps0_4_sub, hostOps0_5_sub, hostOps0_6_sub, hostOps0_7_sub,
          hostOps0_8_sub, hostOps0_9_sub, hostOps0_10_sub, hostOps0_11_sub, hostOps0_12_sub, hostOps0_13_sub, hostOps0_14_sub⟩)
    (by simp only [List.Forall]
        exact ⟨hostOps0_fresh, hostOps0_1_fresh, hostOps0_2_fresh, hostOps0_3_fresh, hostOps0_4_fresh, hostOps0_5_fresh, hostOps0_6_fresh,
          hostOps0_7_fresh, hostOps0_8_fresh, hostOps0_9_fresh, hostOps0_10_fresh, hostOps0_11_fresh, hostOps0_12_fresh, hostOps0_13_fresh,
          hostOps0_14_fresh⟩) main_chain

/-- A buffer outside the pipeline's arrays at the program's end: what the lines after the region make of it. -/
def ends (c : Dev nD) (b : Ref sig .tc) : Buf (Elt F) ((c : Thread nD τ).loc b) :=
  StableHlo.after (List.flatten [hostOps1]) (Pipeline.withArrays spec0 c (Pipeline.withR (V0 m c) R0 c (G m c)) fun w => (dats m 0 c).arrAt w cfg0.N)
    (Proc.devRef .tc b)

set_option backward.isDefEq.respectTransparency.types false in
/-- The program ends with every buffer outside the pipeline's arrays as stated, and every counter at zero. -/
theorem run_main : θ_run defs (onTc (τ := τ) (main (F := F))) (s₀ m ρ)
    (fun r => (∀ c : Dev nD, ∀ b ∈ Pipeline.restRefs sig spec0, r.2.mem ((c.tc : Thread nD τ).loc b) = ends m c b) ∧ r.2.sem = fun _ => 0) :=
  Pipeline.θ_run_frame_dmaR_aroundV cfgs (dats m) (0 : Fin 1) launch0 osem defs₀ Variants.none ownSemFacts H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain_dma m) (hA := A_eq m)
    (hin := fun c => by rw [phi_eq]; exact .rfl) (hout := fun c => by rw [phi_eq]; exact .rfl)
    (Q' := fun r => (∀ c : Dev nD, ∀ b ∈ Pipeline.restRefs sig spec0, r.2.mem ((c.tc : Thread nD τ).loc b) = ends m c b) ∧ r.2.sem = fun _ => 0)
    (hQ' := fun _ h => ⟨fun c b hb => (h.1 c).2 b hb, h.2⟩)

/-! ## The buffers at the end -/

/-- A buffer that neither the region nor the line after it writes ends as the region found it. -/
theorem ends_of_not_written (c : Dev nD) (b : Ref sig .tc) (h₁ : b ≠ main_v39) (h₂ : ∀ w, Pipeline.arrRef spec0 w ≠ b) (h₃ : b ∉ R0) :
    ends m c b = V m c b := by
  unfold ends
  rw [StableHlo.after_of_forall_not_mem (b := Proc.devRef .tc b) _ _ (List.forall_iff_forall_mem.mp (by
      simp only [List.flatten_cons, List.flatten_nil, List.append_nil, List.Forall, StableHlo.reshape_writes, Finset.mem_singleton]
      exact StableHlo.devRef_ne_of_ne h₁)),
    Pipeline.withArrays_of_ne _ c _ _ b h₂]
  exact Pipeline.withR_of_not_mem _ _ _ _ _ h₃

/-- The result is what the region wrote, as one row. -/
theorem ends_out (c : Dev nD) :
    ends m c main_v39 = shapeCast S16777216 (written (V m c main_v0) (denom m c)) shapeCasts_S131072x128_S16777216 := by
  unfold ends
  rw [List.flatten_cons, List.flatten_nil, List.append_nil, StableHlo.after_cons, StableHlo.after_nil, StableHlo.reshape_result',
    Pipeline.withArrays_of_ne _ c _ _ main_v38 (by exact (by decide : ∀ w, Pipeline.arrRef spec0 w ≠ main_v38)),
    Pipeline.withR_of_mem _ R0 c _ main_v38 (Finset.mem_singleton_self _), G_out]
  rfl

/-- The first argument ends as it was. -/
theorem ends_arg0 (c : Dev nD) : ends m c main_arg0 = m ((c : Thread nD τ).loc main_arg0) :=
  (ends_of_not_written m c main_arg0 (by decide) (by exact (by decide : ∀ w, Pipeline.arrRef spec0 w ≠ main_arg0)) (by decide)).trans (V_main_arg0 m c)

/-- So does the second. -/
theorem ends_arg1 (c : Dev nD) : ends m c main_arg1 = m ((c : Thread nD τ).loc main_arg1) :=
  (ends_of_not_written m c main_arg1 (by decide) (by exact (by decide : ∀ w, Pipeline.arrRef spec0 w ≠ main_arg1)) (by decide)).trans (V_main_arg1 m c)

/-- The region finds the input as rows of 128. -/
theorem V_input (c : Dev nD) :
    V m c main_v0 = shapeCast S131072x128 (m ((c : Thread nD τ).loc main_arg0)) shapeCasts_S16777216_S131072x128 := by
  show StableHlo.after (hostOps0 ++ _) _ _ = _
  simp only [List.flatten_cons, List.cons_append]
  rw [StableHlo.after_cons, StableHlo.after_of_forall_not_mem (b := Proc.devRef .tc main_v0) _ _ (List.forall_iff_forall_mem.mp (by
    simp only [hostOps0, hostOps0_1, hostOps0_2, hostOps0_3, hostOps0_4, hostOps0_5, hostOps0_6, hostOps0_7, hostOps0_8, hostOps0_9, hostOps0_10,
      hostOps0_11, hostOps0_12, hostOps0_13, hostOps0_14, List.flatten_cons, List.flatten_nil, List.append_nil, List.cons_append, List.nil_append,
      List.Forall, StableHlo.nullary_writes, StableHlo.unary_writes, StableHlo.binary_writes, StableHlo.ternary_writes, StableHlo.reshape_writes,
      Finset.mem_singleton]
    repeat' apply And.intro
    all_goals exact StableHlo.devRef_ne_of_ne (by decide))), StableHlo.reshape_result']
  rfl

/-- The program's end: the arguments as they were, and the result every element of the input, quantised. -/
theorem run : θ_run defs (onTc (τ := τ) (main (F := F))) ⟨m, fun _ => 0, ρ⟩
    (fun r => (∀ c : Dev nD,
        r.2.mem ((c.tc : Thread nD τ).loc main_v39)
            = shapeCast S16777216 (written (V m c main_v0) (denom m c)) shapeCasts_S131072x128_S16777216
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c =>
    ⟨(h.1 c main_v39 (Pipeline.mem_restRefs_of main_v39 (by decide) (by decide))).trans (ends_out m c),
      (h.1 c main_arg0 (Pipeline.mem_restRefs_of main_arg0 (by decide) (by decide))).trans (ends_arg0 m c),
      (h.1 c main_arg1 (Pipeline.mem_restRefs_of main_arg1 (by decide) (by decide))).trans (ends_arg1 m c)⟩, h.2⟩) (run_main m ρ)

end Cert.KernelIdeal.Hand
-- ==== Proof.Twin.lean ====
/-
  The program over the machine's floats and the program over the extended reals are one text: what is proved of the one
  for every reading of the floats holds of the other.
-/
module

public import proofs.«01_k».proof.Proof.Run
public import proofs.«01_k».proof.Proof.Gen.Kernel
public import Idealize.ShloMosaic.Lib.Tactic

@[expose] public section

set_option maxRecDepth 65536
set_option maxHeartbeats 2000000

noncomputable section

namespace Cert.Twin

open Idealize.ShloMosaic Idealize.ShloMosaic.TcCoe Idealize.SL.Sem

variable {F : FTy → Type} [FloatOps F]

/-- The two programs' main functions are the same. -/
theorem main_eq : Cert.Kernel.main (F := F) = Cert.KernelIdeal.main (F := F) := by sl_kernel_rfl

/-- The two programs' called functions are the same. -/
theorem defs_eq : Cert.Kernel.defs (F := F) = Cert.KernelIdeal.defs (F := F) := by sl_kernel_rfl

variable (m : (ℓ : Loc Cert.Kernel.nD Cert.Kernel.τ Cert.Kernel.sig) → Buf (Elt F) ℓ) (ρ : Dev Cert.Kernel.nD → PrngReg)

/-- The kernel ends with its arguments as they were and every counter at zero. -/
theorem frame : θ_run (Cert.Kernel.defs (F := F)) (onTc (τ := Cert.Kernel.τ) (Cert.Kernel.main (F := F))) ⟨m, fun _ => 0, ρ⟩
    (fun r => (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1)) ∧ r.2.sem = fun _ => 0) := by
  rw [main_eq, defs_eq]
  exact (θ_run Cert.KernelIdeal.defs _ _).mono (fun _ h => ⟨fun c => (h.1 c).2, h.2⟩) (Cert.KernelIdeal.Hand.run m ρ)

end Cert.Twin

end
-- ==== Proof.Extrema.lean ====
/-
  Minimum and maximum over the extended reals, by what lies below and what lies above them: of a fold, of a reduction to
  one number, and of the kernel's running minimum and maximum, which is that of the whole input.
-/
module

public import proofs.«01_k».proof.Proof.Run
public import Idealize.ShloMosaic.PureOps.Ideal

@[expose] public section

set_option maxRecDepth 65536

noncomputable section

namespace Cert.Extrema

open Idealize.ShloMosaic

/-! ## Folds -/

variable {ι : Type}

/-- What lies below a fold by minimum lies below its start and below every term. -/
theorem le_foldl_min (f : ι → EReal) (z : EReal) :
    ∀ (l : List ι) (a : EReal), z ≤ l.foldl (fun r n => min r (f n)) a ↔ z ≤ a ∧ ∀ n ∈ l, z ≤ f n
  | [], a => by simp
  | n :: l, a => by
    rw [List.foldl_cons, le_foldl_min f z l, le_min_iff, List.forall_mem_cons, and_assoc]

/-- What lies above a fold by maximum lies above its start and above every term. -/
theorem foldl_max_le (f : ι → EReal) (z : EReal) :
    ∀ (l : List ι) (a : EReal), l.foldl (fun r n => max r (f n)) a ≤ z ↔ a ≤ z ∧ ∀ n ∈ l, f n ≤ z
  | [], a => by simp
  | n :: l, a => by
    rw [List.foldl_cons, foldl_max_le f z l, max_le_iff, List.forall_mem_cons, and_assoc]

/-! ## Reductions to one number -/

variable {s t : Shape}

/-- A property of every element a reduction to one number goes over is a property of every element. -/
theorem forall_reduced (ht : ∀ i j : t.Idx, i = j) (drop : s.Idx → t.Idx) (j : t.Idx) (P : s.Idx → Prop) :
    (∀ n ∈ (List.finRange s.numel).filter fun n => drop (s.rowMajor.symm n) = j, P (s.rowMajor.symm n)) ↔ ∀ i, P i := by
  constructor
  · intro h i
    have := h (s.rowMajor i) (List.mem_filter.mpr ⟨List.mem_finRange _, decide_eq_true (ht _ _)⟩)
    rwa [Equiv.symm_apply_apply] at this
  · exact fun h n _ => h _

variable {axes : List (Fin s.rank)}

/-- What lies below a minimum over a whole array lies below its start and below every element. -/
theorem le_reduceFold (ht : ∀ i j : t.Idx, i = j) (h : s.Reduces axes t) (a : EReal) (x : s.Idx → EReal) (j : t.Idx) (z : EReal) :
    z ≤ reduceFold h min a x j ↔ z ≤ a ∧ ∀ i, z ≤ x i := by
  unfold reduceFold
  rw [le_foldl_min (fun n => x (s.rowMajor.symm n)), forall_reduced ht h.drop j fun i => z ≤ x i]

/-- What lies above a maximum over a whole array lies above its start and above every element. -/
theorem reduceFold_le (ht : ∀ i j : t.Idx, i = j) (h : s.Reduces axes t) (a : EReal) (x : s.Idx → EReal) (j : t.Idx) (z : EReal) :
    reduceFold h max a x j ≤ z ↔ a ≤ z ∧ ∀ i, x i ≤ z := by
  unfold reduceFold
  rw [foldl_max_le (fun n => x (s.rowMajor.symm n)), forall_reduced ht h.drop j fun i => x i ≤ z]

/-- The same of a minimum that the host takes. -/
theorem le_hostReduce {u : Shape} (ht : ∀ i j : t.Idx, i = j) (h : s.ReducesTo axes t) (hu : 0 < u.numel) (a : u.Idx → EReal)
    (x : s.Idx → EReal) (j : t.Idx) (z : EReal) :
    z ≤ Host.reduce min x a h hu j ↔ z ≤ a (Shape.Idx.first hu) ∧ ∀ i, z ≤ x i := by
  unfold Host.reduce
  rw [le_foldl_min (fun n => x (s.rowMajor.symm n)), forall_reduced ht h.drop j fun i => z ≤ x i]

/-- The same of a maximum that the host takes. -/
theorem hostReduce_le {u : Shape} (ht : ∀ i j : t.Idx, i = j) (h : s.ReducesTo axes t) (hu : 0 < u.numel) (a : u.Idx → EReal)
    (x : s.Idx → EReal) (j : t.Idx) (z : EReal) :
    Host.reduce max x a h hu j ≤ z ↔ a (Shape.Idx.first hu) ≤ z ∧ ∀ i, x i ≤ z := by
  unfold Host.reduce
  rw [foldl_max_le (fun n => x (s.rowMajor.symm n)), forall_reduced ht h.drop j fun i => x i ≤ z]

/-- A property of every element of an array is one of every element of the array in another shape. -/
theorem forall_shapeCast {α : Type} (x : s.Idx → α) (h : s.ShapeCasts t) (P : α → Prop) :
    (∀ j, P (shapeCast t x h j)) ↔ ∀ i, P (x i) :=
  ⟨fun H i => by simpa [shapeCast] using H ((Shape.reshapeEquiv h).symm i), fun H _ => H _⟩

/-! ## The words of the infinities -/

/-- The word of +∞ is the top, … -/
theorem ofBits_top : Ideal.ofBits .f32 0x7F800000#32 = ⊤ := by simp [Ideal.ofBits, Ideal.ieee]
/-- … that of −∞ the bottom, … -/
theorem ofBits_bot : Ideal.ofBits .f32 0xFF800000#32 = ⊥ := by simp [Ideal.ofBits, Ideal.ieee]
/-- … and that of one is one. -/
theorem ofBits_one : Ideal.ofBits .f32 0x3F800000#32 = 1 := by
  simp [Ideal.ofBits, Ideal.ieee, -EReal.coe_mul]; norm_num

end Cert.Extrema

namespace Cert.KernelIdeal.Hand

open Cert.KernelIdeal Cert.KernelIdeal.Gen Cert.Extrema
open Idealize.ShloMosaic

/-! ## The kernel's running minimum and maximum -/

/-- What lies below the minimum carried through `n` blocks of a chunk, at one place of a block. -/
theorem le_accBlk (d : Chunk Ideal) (a : FVec Ideal S64x128 .f32 × FVec Ideal S64x128 .f32) (y : S64x128.Idx) (z : EReal) (n : ℕ) :
    z ≤ ((accBlk d a n).1 y : EReal) ↔ z ≤ (a.1 y : EReal) ∧ ∀ k < n, z ≤ (blk d (Fin.ofNat 64 k) y : EReal) := by
  induction n with
  | zero => simp [accBlk]
  | succ n ih =>
    have h : ((accBlk d a (n + 1)).1 y : EReal) = min ((accBlk d a n).1 y : EReal) (blk d (Fin.ofNat 64 n) y) := rfl
    rw [h, le_min_iff, ih, and_assoc, Nat.forall_lt_succ_right]

/-- What lies above the maximum carried through `n` blocks of a chunk, at one place of a block. -/
theorem accBlk_le (d : Chunk Ideal) (a : FVec Ideal S64x128 .f32 × FVec Ideal S64x128 .f32) (y : S64x128.Idx) (z : EReal) (n : ℕ) :
    ((accBlk d a n).2 y : EReal) ≤ z ↔ (a.2 y : EReal) ≤ z ∧ ∀ k < n, (blk d (Fin.ofNat 64 k) y : EReal) ≤ z := by
  induction n with
  | zero => simp [accBlk]
  | succ n ih =>
    have h : ((accBlk d a (n + 1)).2 y : EReal) = max ((accBlk d a n).2 y : EReal) (blk d (Fin.ofNat 64 n) y) := rfl
    rw [h, max_le_iff, ih, and_assoc, Nat.forall_lt_succ_right]

/-- What lies below the minimum carried through `n` chunks. -/
theorem le_accAll (X : Fin 32 → Chunk Ideal) (y : S64x128.Idx) (z : EReal) (n : ℕ) :
    z ≤ ((accAll X n).1 y : EReal) ↔ ∀ j < n, ∀ k < 64, z ≤ (blk (X (Fin.ofNat 32 j)) (Fin.ofNat 64 k) y : EReal) := by
  induction n with
  | zero =>
    have h : ((accAll X 0).1 y : EReal) = ⊤ := ofBits_top
    rw [h]; simp
  | succ n ih =>
    have h : ((accAll X (n + 1)).1 y : EReal) = (accBlk (X (Fin.ofNat 32 n)) (accAll X n) 64).1 y := rfl
    rw [h, le_accBlk, ih]
    exact Nat.forall_lt_succ_right.symm

/-- What lies above the maximum carried through `n` chunks. -/
theorem accAll_le (X : Fin 32 → Chunk Ideal) (y : S64x128.Idx) (z : EReal) (n : ℕ) :
    ((accAll X n).2 y : EReal) ≤ z ↔ ∀ j < n, ∀ k < 64, (blk (X (Fin.ofNat 32 j)) (Fin.ofNat 64 k) y : EReal) ≤ z := by
  induction n with
  | zero =>
    have h : ((accAll X 0).2 y : EReal) = Ideal.ofBits .f32 0x00000000#32 - Ideal.ofBits .f32 0x7F800000#32 := rfl
    rw [h, ofBits_top]; simp
  | succ n ih =>
    have h : ((accAll X (n + 1)).2 y : EReal) = (accBlk (X (Fin.ofNat 32 n)) (accAll X n) 64).2 y := rfl
    rw [h, accBlk_le, ih]
    exact Nat.forall_lt_succ_right.symm

/-- Every element of the input lies in one block of one chunk. -/
theorem mem_blocks (i : S131072x128.Idx) :
    ∃ (j : Fin 32) (k : Fin 64) (y : S64x128.Idx), (chunkR 32 j).emb ((rowsR k).emb y) = i := by
  have h₀ : (i (0 : Fin 2)).val < 131072 := (i (0 : Fin 2)).isLt
  have h₁ : (i (1 : Fin 2)).val < 128 := (i (1 : Fin 2)).isLt
  refine ⟨⟨(i (0 : Fin 2)).val / 4096, by omega⟩, ⟨(i (0 : Fin 2)).val % 4096 / 64, by omega⟩,
    fun a => Fin.cases ⟨(i (0 : Fin 2)).val % 64, Nat.mod_lt _ (by decide)⟩ (fun b => Fin.cases ⟨(i (1 : Fin 2)).val, h₁⟩ (fun c => c.elim0) b) a, ?_⟩
  funext a
  apply Fin.ext
  fin_cases a
  · show 4096 * ((i (0 : Fin 2)).val / 4096) + 1 * (64 * ((i (0 : Fin 2)).val % 4096 / 64) + 1 * ((i (0 : Fin 2)).val % 64)) = (i (0 : Fin 2)).val
    omega
  · show 0 + 1 * (0 + 1 * (i (1 : Fin 2)).val) = (i (1 : Fin 2)).val
    omega

/-- A property of every element of every block is one of every element of the input. -/
theorem forall_blocks (x : S131072x128.Idx → EReal) (P : EReal → Prop) :
    (∀ (y : S64x128.Idx), ∀ j < 32, ∀ k < 64, P (blk (F := Ideal) (chunksOf (F := Ideal) x (Fin.ofNat 32 j)) (Fin.ofNat 64 k) y)) ↔ ∀ i, P (x i) := by
  constructor
  · intro h i
    obtain ⟨j, k, y, rfl⟩ := mem_blocks i
    have := h y j.val j.isLt k.val k.isLt
    rwa [show Fin.ofNat 32 j.val = j from Fin.ext (Nat.mod_eq_of_lt j.isLt),
      show Fin.ofNat 64 k.val = k from Fin.ext (Nat.mod_eq_of_lt k.isLt)] at this
  · exact fun h _ _ _ _ _ => h _

/-- An array of one element has one index. -/
theorem one1 (i j : S1.Idx) : i = j := (eq_one0 i).trans (eq_one0 j).symm

/-- What lies below the kernel's minimum lies below every element of the input. -/
theorem le_minimum (x : S131072x128.Idx → EReal) (z : EReal) :
    z ≤ (k0_pay6 (F := Ideal) (extrema x).1 : EReal) ↔ ∀ i, z ≤ x i := by
  have h : (k0_pay6 (F := Ideal) (extrema x).1 : EReal)
      = reduceFold reduces_S1x64x128_S1 min (Ideal.ofBits .f32 0x7F800000#32)
          (shapeCast S1x64x128 (extrema (F := Ideal) x).1 shapeCasts_S64x128_S1x64x128) (Shape.reshapeEquiv shapeCasts_S1_S1x1x1 fun a => ⟨![0, 0, 0] a, inpos_S1x1x1_p0_0_0 a⟩) := rfl
  rw [h, le_reduceFold one1, ofBits_top, forall_shapeCast _ _ fun e => z ≤ e, ← forall_blocks x fun e => z ≤ e]
  simp only [le_top, true_and]
  exact forall_congr' fun y => le_accAll (chunksOf (F := Ideal) x) y z 32

/-- The kernel's maximum, reduced to one number. -/
def maximum (x : S131072x128.Idx → EReal) : EReal :=
  reduceFold reduces_S1x64x128_S1 max (Ideal.ofBits .f32 0xFF800000#32)
    (shapeCast S1x64x128 (extrema (F := Ideal) x).2 shapeCasts_S64x128_S1x64x128)
    (Shape.reshapeEquiv shapeCasts_S1_S1x1x1 fun a => ⟨![0, 0, 0] a, inpos_S1x1x1_p0_0_0 a⟩)

/-- What lies above the kernel's maximum lies above every element of the input. -/
theorem maximum_le (x : S131072x128.Idx → EReal) (z : EReal) : maximum x ≤ z ↔ ∀ i, x i ≤ z := by
  unfold maximum
  rw [reduceFold_le one1, ofBits_bot, forall_shapeCast _ _ fun e => e ≤ z, ← forall_blocks x fun e => e ≤ z]
  simp only [bot_le, true_and]
  exact forall_congr' fun y => accAll_le (chunksOf (F := Ideal) x) y z 32

end Cert.KernelIdeal.Hand

end
-- ==== Proof.Steps.lean ====
/-
  The number of quantisation steps, 2^bits − 1, as the host computes it of its integer argument: in both programs a power
  by repeated squaring, over six bits of the exponent, then the subtraction and the conversion to a float.
-/
module

public import Idealize.ShloMosaic.PureOps.Vector
public import Idealize.ShloMosaic.PureOps.ShapeOps

@[expose] public section

noncomputable section

namespace Cert.Steps

open Idealize.ShloMosaic

/-- The shape of a single number. -/
abbrev Point : Shape := ⟨0, ![]⟩

/-- `k` rounds of repeated squaring: where the exponent's lowest bit is set the result is multiplied by the square, then
    the square is squared and the exponent halved. -/
def squarings : ℕ → IVec Point 32 → IVec Point 32 → IVec Point 32 → IVec Point 32
  | 0, r, _, _ => r
  | k + 1, r, sq, e =>
    squarings k (select (cmpi .ne (andi e (constantI Point 32 1#32)) (constantI Point 32 0#32)) (muli r sq) r)
      (muli sq sq) (Host.shrui e (constantI Point 32 1#32))

/-- Two to the power `b`: from 1, which would be 0 were the base 0 and the exponent not. -/
def powerOfTwo (b : IVec Point 32) : IVec Point 32 :=
  squarings 6
    (select (andi (cmpi .eq (constantI Point 32 2#32) (constantI Point 32 0#32)) (cmpi .ne b (constantI Point 32 0#32)))
      (constantI Point 32 0#32) (constantI Point 32 1#32))
    (constantI Point 32 2#32) b

variable {F : FTy → Type} [FloatOps F]

/-- The number of steps, `2 ^ b - 1`, as a float. -/
def steps (b : IVec Point 32) : FVec F Point .f32 := sitofp .f32 (subi (powerOfTwo b) (constantI Point 32 1#32))

end Cert.Steps

end
-- ==== Proof.Denom.lean ====
/-
  The denominator that the kernel's region is given is the number of steps.
-/
module

public import proofs.«01_k».proof.Proof.Run
public import proofs.«01_k».proof.Proof.Steps
public import Idealize.ShloMosaic.Lib.StableHlo.Run

@[expose] public section

set_option maxRecDepth 65536

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

set_option maxHeartbeats 4000000 in
/-- The one-element array the host makes of the integer argument. -/
theorem V_denom (c : Dev nD) :
    V m c main_v37 = shapeCast S1 (Steps.steps (F := F) (m ((c : Thread nD τ).loc main_arg1))) shapeCasts_S_S1 := by
  show StableHlo.after _ _ _ = _
  simp only [List.flatten_cons, List.flatten_nil, List.cons_append, List.nil_append, List.append_nil,
    StableHlo.TRef.binary, StableHlo.TRef.nullary, StableHlo.TRef.ternary, StableHlo.TRef.toBuf, StableHlo.TRef.ofBuf, cast_eq]
  after_results_simp
  unfold Steps.steps Steps.powerOfTwo
  simp only [Steps.squarings]
  rfl

/-- A single number as a one-element array. -/
theorem shapeCast_point {α : Type} (x : S_.Idx → α) (h : S_.ShapeCasts S1) (i : S1.Idx) (j : S_.Idx) : shapeCast S1 x h i = x j :=
  congrArg x (funext fun a => a.elim0)

/-- The region's denominator. -/
theorem denom_eq (c : Dev nD) (j : S_.Idx) : denom m c = Steps.steps (F := F) (m ((c : Thread nD τ).loc main_arg1)) j :=
  (congrFun (V_denom m c) one0).trans (shapeCast_point _ _ _ _)

end Cert.KernelIdeal.Hand

end
-- ==== Proof.Reference.lean ====
/-
  What the reference computes, written out: the least and the greatest element, the scale, and every element quantised.
-/
module

public import proofs.«01_k».proof.Proof.Gen.ReferenceIdeal.Run
public import proofs.«01_k».proof.Proof.Steps

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The least element. -/
def lowest (x : FVec F S16777216 .f32) : FVec F S_ .f32 :=
  Host.reduce FloatOps.minimumf x (constant S_ .f32 0x7F800000#32) reducesTo_S16777216_S_d0 h_S_

/-- The greatest element. -/
def highest (x : FVec F S16777216 .f32) : FVec F S_ .f32 :=
  Host.reduce FloatOps.maximumf x (constant S_ .f32 0xFF800000#32) reducesTo_S16777216_S_d0 h_S_

/-- The width of one quantisation step. -/
def scale (x : FVec F S16777216 .f32) (b : IVec S_ 32) : FVec F S_ .f32 :=
  Host.divf (subf (highest x) (lowest x)) (Steps.steps b)

/-- A single number at every place of an array of the input's shape. -/
def everywhere (v : FVec F S_ .f32) : FVec F S16777216 .f32 := broadcastInDim S16777216 ![] bcast_S_S16777216 v

/-- Every element, quantised. -/
def quantised (x : FVec F S16777216 .f32) (b : IVec S_ 32) : FVec F S16777216 .f32 :=
  addf (mulf (Host.roundeven (Host.divf (subf x (everywhere (lowest x))) (everywhere (scale x b)))) (everywhere (scale x b)))
    (everywhere (lowest x))

variable (m : (ℓ : Loc nD τ sig) → Buf (Elt F) ℓ)

set_option maxHeartbeats 4000000 in
/-- The reference's result is every element of its first argument, quantised. -/
theorem result_eq (c : Dev nD) :
    Value.res_main_v48 m c = quantised (F := F) (m ((c.tc : Thread nD τ).loc main_arg0)) (m ((c.tc : Thread nD τ).loc main_arg1)) := by
  unfold Value.res_main_v48 quantised scale lowest highest everywhere Steps.steps Steps.powerOfTwo
  simp only [Steps.squarings]

/-- A single number, spread, at one place. -/
theorem everywhere_apply (v : FVec F S_ .f32) (i : S16777216.Idx) (j : S_.Idx) : everywhere v i = v j :=
  congrArg v (funext fun a => a.elim0)

end Cert.ReferenceIdeal.Hand

end
-- ==== Proof.Equation.lean ====
/-
  The equation: over the extended reals the kernel and the reference quantise alike. The kernel multiplies by the inverse
  of the scale where the reference divides by it, and finds the extrema block by block where the reference finds them in
  one reduction.
-/
module

public import proofs.«01_k».proof.Proof.Extrema
public import proofs.«01_k».proof.Proof.Denom
public import proofs.«01_k».proof.Proof.Reference

@[expose] public section

set_option maxRecDepth 65536

noncomputable section

namespace Cert.Equation

open Idealize.ShloMosaic Cert.Extrema
open Cert.KernelIdeal.Hand (written extrema maximum le_minimum maximum_le)
open Cert.ReferenceIdeal.Hand (lowest highest scale quantised everywhere_apply)
open Cert.KernelIdeal (S131072x128 S16777216 S_)
open Cert.KernelIdeal.Gen

/-- Dividing by a scale and then multiplying by it, or multiplying by its inverse and then by it, are one thing even where
    the scale is zero: then both products are zero. -/
theorem scale_law (round : EReal → EReal) (v s : EReal) : round (v * Ideal.div 1 s) * s = round (Ideal.div v s) * s := by
  by_cases h : s = 0
  · rw [h, mul_zero, mul_zero]
  · unfold Ideal.div
    rw [if_neg h, if_neg h, one_mul]

variable (x : S16777216.Idx → EReal)

/-- The index of a single number. -/
def pt : S_.Idx := fun a => a.elim0

/-- A single number has one index. -/
theorem one_pt (i j : S_.Idx) : i = j := funext fun a => a.elim0

/-- The two programs' minima are equal. -/
theorem minimum_eq (h : S16777216.ShapeCasts S131072x128) :
    (k0_pay6 (F := Ideal) (extrema (F := Ideal) (shapeCast S131072x128 x h)).1 : EReal) = lowest (F := Ideal) x pt := by
  refine eq_of_forall_le_iff fun z => ?_
  rw [le_minimum, forall_shapeCast x h fun e => z ≤ e]
  have e : (lowest (F := Ideal) x pt : EReal) = Host.reduce min x (constant (F := Ideal) S_ .f32 0x7F800000#32)
      Cert.ReferenceIdeal.Gen.reducesTo_S16777216_S_d0 Cert.ReferenceIdeal.Gen.h_S_ pt := rfl
  rw [e, le_hostReduce one_pt, show constant (F := Ideal) S_ .f32 0x7F800000#32 _ = (⊤ : EReal) from ofBits_top]
  simp only [le_top, true_and]

/-- The two programs' maxima are equal. -/
theorem maximum_eq (h : S16777216.ShapeCasts S131072x128) :
    maximum (shapeCast S131072x128 x h) = highest (F := Ideal) x pt := by
  refine eq_of_forall_ge_iff fun z => ?_
  rw [maximum_le, forall_shapeCast x h fun e => e ≤ z]
  have e : (highest (F := Ideal) x pt : EReal) = Host.reduce max x (constant (F := Ideal) S_ .f32 0xFF800000#32)
      Cert.ReferenceIdeal.Gen.reducesTo_S16777216_S_d0 Cert.ReferenceIdeal.Gen.h_S_ pt := rfl
  rw [e, hostReduce_le one_pt, show constant (F := Ideal) S_ .f32 0xFF800000#32 _ = (⊥ : EReal) from ofBits_bot]
  simp only [bot_le, true_and]

/-- What the kernel writes at one place, by its minimum, its maximum and the number of steps. -/
theorem written_apply (y : S131072x128.Idx → EReal) (d : EReal) (i : S131072x128.Idx) :
    (written (F := Ideal) y d i : EReal)
      = Ideal.liftRound Ideal.roundHalfEven
            ((y i - k0_pay6 (F := Ideal) (extrema (F := Ideal) y).1)
              * Ideal.div (Ideal.ofBits .f32 0x3F800000#32) (Ideal.div (maximum y - k0_pay6 (F := Ideal) (extrema (F := Ideal) y).1) d))
          * Ideal.div (maximum y - k0_pay6 (F := Ideal) (extrema (F := Ideal) y).1) d
        + k0_pay6 (F := Ideal) (extrema (F := Ideal) y).1 := rfl

/-- The reference's elementwise operations at one place. -/
theorem quantise_apply {s : Shape} (v lo sc : FVec Ideal s .f32) (i : s.Idx) :
    (addf (mulf (Host.roundeven (Host.divf (subf v lo) sc)) sc) lo i : EReal)
      = Ideal.liftRound Ideal.roundHalfEven (Ideal.div (v i - lo i) (sc i)) * sc i + lo i := rfl

/-- The reference's scale, of any extrema and any number of steps. -/
theorem scale_apply {s : Shape} (hi lo d : FVec Ideal s .f32) (j : s.Idx) :
    (Host.divf (subf hi lo) d j : EReal) = Ideal.div (hi j - lo j) (d j) := rfl

/-- What the reference computes at one place, by its minimum, its maximum and the number of steps. -/
theorem quantised_apply (b : IVec S_ 32) (i : S16777216.Idx) :
    (quantised (F := Ideal) x b i : EReal)
      = Ideal.liftRound Ideal.roundHalfEven
            (Ideal.div (x i - lowest (F := Ideal) x pt)
              (Ideal.div (highest (F := Ideal) x pt - lowest (F := Ideal) x pt) (Steps.steps (F := Ideal) b pt)))
          * Ideal.div (highest (F := Ideal) x pt - lowest (F := Ideal) x pt) (Steps.steps (F := Ideal) b pt)
        + lowest (F := Ideal) x pt := by
  unfold quantised
  rw [quantise_apply, everywhere_apply (F := Ideal) (lowest x) i pt, everywhere_apply (F := Ideal) (scale x b) i pt]
  unfold scale
  rw [scale_apply]

/-- The kernel's result is the reference's. -/
theorem result_eq (b : IVec S_ 32) (h : S16777216.ShapeCasts S131072x128) (h' : S131072x128.ShapeCasts S16777216) :
    shapeCast S16777216 (written (F := Ideal) (shapeCast S131072x128 x h) (Steps.steps (F := Ideal) b pt)) h' = quantised (F := Ideal) x b := by
  funext i
  have e : (shapeCast S131072x128 x h) (Shape.reshapeEquiv h' i) = x i := congrFun (shapeCast_shapeCast x h h') i
  show (written (F := Ideal) (shapeCast S131072x128 x h) (Steps.steps (F := Ideal) b pt) (Shape.reshapeEquiv h' i) : EReal) = _
  rw [written_apply, e, minimum_eq, maximum_eq, ofBits_one, scale_law, quantised_apply]

end Cert.Equation

end
-- ==== Proof.lean ====
/-
  The certificate of the adaptive quantiser: the kernel over the machine's floats, the kernel over the extended reals and
  the reference each terminate without fault, with their arguments as they were and every counter at zero; and the kernel
  and the reference compute the same array over the extended reals.

  Proof/Slots, Schedule, Inner, Trips, Body and Region go through the kernel's body: its 29 slots and 58 semaphores, its
  two phases of 32 trips, and its entry and exit. Proof/Run is the program's run, Proof/Twin carries it to the program over
  the machine's floats, Proof/Steps and Denom say what the region's denominator is, Proof/Extrema what the kernel's running
  minimum and maximum are, Proof/Reference what the reference computes, and Proof/Equation that the two are equal.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Equation
public import Idealize.ShloMosaic.Lib.Quiescent
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The kernel over the machine's floats ends with its arguments as they were and every counter at zero. -/
theorem frame_kernel : Cert.quiescent_Kernel := fun m ρ _ => Cert.Twin.frame m ρ

/-- The kernel over the extended reals ends with its arguments as they were and every counter at zero. -/
theorem frame_ideal : Cert.quiescent_KernelIdeal := fun m ρ _ =>
  (θ_run Cert.KernelIdeal.defs _ _).mono (fun _ h => ⟨fun c => (h.1 c).2, h.2⟩) (Cert.KernelIdeal.Hand.run m ρ)

/-- The reference ends with its arguments as they were and every counter at zero: it has none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- What the kernel leaves as its result is its first argument, quantised as the reference quantises it. -/
theorem kernel_result (m : (ℓ : Loc Cert.KernelIdeal.nD Cert.KernelIdeal.τ Cert.KernelIdeal.sig) → Buf (Elt Ideal) ℓ)
    (c : Dev Cert.KernelIdeal.nD) :
    shapeCast Cert.KernelIdeal.S16777216
        (Cert.KernelIdeal.Hand.written (Cert.KernelIdeal.Gen.V m c Cert.KernelIdeal.main_v0) (Cert.KernelIdeal.Hand.denom m c))
        Cert.KernelIdeal.Gen.shapeCasts_S131072x128_S16777216
      = Cert.ReferenceIdeal.Hand.quantised (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Hand.V_input, Cert.KernelIdeal.Hand.denom_eq m c Cert.Equation.pt]
  exact Cert.Equation.result_eq _ _ _ _

/-- Over the extended reals the kernel and the reference compute one function of their arguments. -/
theorem value : Cert.algebraic_KernelIdeal_ReferenceIdeal := fun m ρ m' ρ' _ hm =>
  ⟨fun c => Cert.ReferenceIdeal.Hand.quantised (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => ⟨(h.1 c).1.trans (kernel_result m c), (h.1 c).2⟩)
      (Cert.KernelIdeal.Hand.run m ρ),
    (θ_run Cert.ReferenceIdeal.defs _ _).mono
      (fun _ h c => ⟨(h c).1.trans ((Cert.ReferenceIdeal.Hand.result_eq m' c).trans (by rw [(hm c).1, (hm c).2])), (h c).2⟩)
      (Cert.ReferenceIdeal.Value.run m' ρ')⟩

/-- The certificate: the three frames, the idealisation, which rewrote nothing, and the value claim. -/
theorem claim : Cert.Claim :=
  ⟨Cert.Kernel.Gen.facts, Cert.KernelIdeal.Gen.facts, Cert.ReferenceIdeal.Gen.facts,
    frame_kernel, frame_ideal, frame_reference, trivial, value⟩

end Cert.Proof

end
